-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_KernelYIdeal_finite_y [hPre_finite_y : Cert.Pre_finite_y.Facts] (m : (ℓ : Loc Cert.KernelYIdeal.nD Cert.KernelYIdeal.τ Cert.KernelYIdeal.sig) → Buf (Elt Ideal) ℓ) : Prop :=
  ∀ c : Dev Cert.KernelYIdeal.nD,
    (Cert.Pre_finite_y.fn (F := Ideal) (m ((c.tc : Thread Cert.KernelYIdeal.nD Cert.KernelYIdeal.τ).loc Cert.KernelYIdeal.main_arg0)) (m ((c.tc : Thread Cert.KernelYIdeal.nD Cert.KernelYIdeal.τ).loc Cert.KernelYIdeal.main_arg1)) (m ((c.tc : Thread Cert.KernelYIdeal.nD Cert.KernelYIdeal.τ).loc Cert.KernelYIdeal.main_arg2))) = (fun _ => 1#1)

def Pre_ReferenceYIdeal (m : (ℓ : Loc Cert.ReferenceYIdeal.nD Cert.ReferenceYIdeal.τ Cert.ReferenceYIdeal.sig) → Buf (Elt Ideal) ℓ) : Prop :=
  True

def Pre_ReferenceYIdeal_finite_y [hPre_finite_y : Cert.Pre_finite_y.Facts] (m : (ℓ : Loc Cert.ReferenceYIdeal.nD Cert.ReferenceYIdeal.τ Cert.ReferenceYIdeal.sig) → Buf (Elt Ideal) ℓ) : Prop :=
  ∀ c : Dev Cert.ReferenceYIdeal.nD,
    (Cert.Pre_finite_y.fn (F := Ideal) (m ((c.tc : Thread Cert.ReferenceYIdeal.nD Cert.ReferenceYIdeal.τ).loc Cert.ReferenceYIdeal.main_arg0)) (m ((c.tc : Thread Cert.ReferenceYIdeal.nD Cert.ReferenceYIdeal.τ).loc Cert.ReferenceYIdeal.main_arg1)) (m ((c.tc : Thread Cert.ReferenceYIdeal.nD Cert.ReferenceYIdeal.τ).loc Cert.ReferenceYIdeal.main_arg2))) = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_first [hPre_finite_first : Cert.Pre_finite_first.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_first.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_first [hPre_finite_first : Cert.Pre_finite_first.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_first.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_pivots [hPre_pivots : Cert.Pre_pivots.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_pivots.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_pivots [hPre_pivots : Cert.Pre_pivots.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_pivots.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ r.2.sem = fun _ => 0)

def quiescent_KernelYIdeal_pre_finite_y [hKernelYIdeal : Cert.KernelYIdeal.Facts] [hPre_finite_y : Cert.Pre_finite_y.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal_finite_y m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2))
      ∧ r.2.sem = fun _ => 0)

def quiescent_ReferenceYIdeal_pre_finite_y [hReferenceYIdeal : Cert.ReferenceYIdeal.Facts] [hPre_finite_y : Cert.Pre_finite_y.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal_finite_y m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ r.2.sem = fun _ => 0)

def quiescent_KernelFIdeal_pre_finite_first [hKernelFIdeal : Cert.KernelFIdeal.Facts] [hPre_finite_first : Cert.Pre_finite_first.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_first m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2))
      ∧ r.2.sem = fun _ => 0)

def quiescent_ReferenceFIdeal_pre_finite_first [hReferenceFIdeal : Cert.ReferenceFIdeal.Facts] [hPre_finite_first : Cert.Pre_finite_first.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_first m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_KernelCIdeal_pre_pivots [hKernelCIdeal : Cert.KernelCIdeal.Facts] [hPre_pivots : Cert.Pre_pivots.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_pivots m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_ReferenceCIdeal_pre_pivots [hReferenceCIdeal : Cert.ReferenceCIdeal.Facts] [hPre_pivots : Cert.Pre_pivots.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_pivots m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelY_KernelYIdeal : Prop :=
  True

def algebraic_KernelYIdeal_ReferenceYIdeal_pre_finite_y [hKernelYIdeal : Cert.KernelYIdeal.Facts] [hReferenceYIdeal : Cert.ReferenceYIdeal.Facts] [hPre_finite_y : Cert.Pre_finite_y.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal_finite_y m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)) (v2 : (c : Dev Cert.KernelYIdeal.nD) → Buf (Elt Ideal) ((c.tc : Thread Cert.KernelYIdeal.nD Cert.KernelYIdeal.τ).loc Cert.KernelYIdeal.main_v0_2)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_v0_2) = v2 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v0_0) = v0 c
          ∧ r.2.mem ((c.tc : Thread Cert.ReferenceYIdeal.nD Cert.ReferenceYIdeal.τ).loc Cert.ReferenceYIdeal.main_v0_1) = v1 c
          ∧ r.2.mem ((c.tc : Thread Cert.ReferenceYIdeal.nD Cert.ReferenceYIdeal.τ).loc Cert.ReferenceYIdeal.main_v0_2) = v2 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2))

def preserves_KernelF_KernelFIdeal : Prop :=
  True

def algebraic_KernelFIdeal_ReferenceFIdeal_pre_finite_first [hKernelFIdeal : Cert.KernelFIdeal.Facts] [hReferenceFIdeal : Cert.ReferenceFIdeal.Facts] [hPre_finite_first : Cert.Pre_finite_first.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_first m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)) →
    ∃ (v0 : (c : Dev Cert.KernelFIdeal.nD) → Buf (Elt Ideal) ((c.tc : Thread Cert.KernelFIdeal.nD Cert.KernelFIdeal.τ).loc Cert.KernelFIdeal.main_v0_0)) (v1 : (c : Dev Cert.KernelFIdeal.nD) → Buf (Elt Ideal) ((c.tc : Thread Cert.KernelFIdeal.nD Cert.KernelFIdeal.τ).loc Cert.KernelFIdeal.main_v0_1)) (v2 : (c : Dev Cert.KernelFIdeal.nD) → Buf (Elt Ideal) ((c.tc : Thread Cert.KernelFIdeal.nD Cert.KernelFIdeal.τ).loc Cert.KernelFIdeal.main_v0_2)) (v3 : (c : Dev Cert.KernelFIdeal.nD) → Buf (Elt Ideal) ((c.tc : Thread Cert.KernelFIdeal.nD Cert.KernelFIdeal.τ).loc Cert.KernelFIdeal.main_v0_3)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v0_0) = v0 c
          ∧ r.2.mem ((c.tc : Thread Cert.KernelFIdeal.nD Cert.KernelFIdeal.τ).loc Cert.KernelFIdeal.main_v0_1) = v1 c
          ∧ r.2.mem ((c.tc : Thread Cert.KernelFIdeal.nD Cert.KernelFIdeal.τ).loc Cert.KernelFIdeal.main_v0_2) = v2 c
          ∧ r.2.mem ((c.tc : Thread Cert.KernelFIdeal.nD Cert.KernelFIdeal.τ).loc Cert.KernelFIdeal.main_v0_3) = v3 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v0_0) = v0 c
          ∧ r.2.mem ((c.tc : Thread Cert.ReferenceFIdeal.nD Cert.ReferenceFIdeal.τ).loc Cert.ReferenceFIdeal.main_v0_1) = v1 c
          ∧ r.2.mem ((c.tc : Thread Cert.ReferenceFIdeal.nD Cert.ReferenceFIdeal.τ).loc Cert.ReferenceFIdeal.main_v0_2) = v2 c
          ∧ r.2.mem ((c.tc : Thread Cert.ReferenceFIdeal.nD Cert.ReferenceFIdeal.τ).loc Cert.ReferenceFIdeal.main_v0_3) = v3 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2))

def preserves_KernelC_KernelCIdeal : Prop :=
  True

def algebraic_KernelCIdeal_ReferenceCIdeal_pre_pivots [hKernelCIdeal : Cert.KernelCIdeal.Facts] [hReferenceCIdeal : Cert.ReferenceCIdeal.Facts] [hPre_pivots : Cert.Pre_pivots.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_pivots m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v0) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def Claim : Prop :=
  ∃ (hKernel : Cert.Kernel.Facts) (hKernelIdeal : Cert.KernelIdeal.Facts) (hReferenceIdeal : Cert.ReferenceIdeal.Facts) (hKernelY : Cert.KernelY.Facts) (hKernelYIdeal : Cert.KernelYIdeal.Facts) (hReferenceYIdeal : Cert.ReferenceYIdeal.Facts) (hKernelF : Cert.KernelF.Facts) (hKernelFIdeal : Cert.KernelFIdeal.Facts) (hReferenceFIdeal : Cert.ReferenceFIdeal.Facts) (hKernelC : Cert.KernelC.Facts) (hKernelCIdeal : Cert.KernelCIdeal.Facts) (hReferenceCIdeal : Cert.ReferenceCIdeal.Facts) (hPre_finite : Cert.Pre_finite.Facts) (hPre_finite_y : Cert.Pre_finite_y.Facts) (hPre_finite_first : Cert.Pre_finite_first.Facts) (hPre_pivots : Cert.Pre_pivots.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelY (hKernelY := hKernelY)
    ∧ quiescent_KernelYIdeal (hKernelYIdeal := hKernelYIdeal)
    ∧ quiescent_KernelYIdeal_pre_finite_y (hKernelYIdeal := hKernelYIdeal) (hPre_finite_y := hPre_finite_y)
    ∧ quiescent_ReferenceYIdeal (hReferenceYIdeal := hReferenceYIdeal)
    ∧ quiescent_ReferenceYIdeal_pre_finite_y (hReferenceYIdeal := hReferenceYIdeal) (hPre_finite_y := hPre_finite_y)
    ∧ quiescent_KernelF (hKernelF := hKernelF)
    ∧ quiescent_KernelFIdeal (hKernelFIdeal := hKernelFIdeal)
    ∧ quiescent_KernelFIdeal_pre_finite_first (hKernelFIdeal := hKernelFIdeal) (hPre_finite_first := hPre_finite_first)
    ∧ quiescent_ReferenceFIdeal (hReferenceFIdeal := hReferenceFIdeal)
    ∧ quiescent_ReferenceFIdeal_pre_finite_first (hReferenceFIdeal := hReferenceFIdeal) (hPre_finite_first := hPre_finite_first)
    ∧ quiescent_KernelC (hKernelC := hKernelC)
    ∧ quiescent_KernelCIdeal (hKernelCIdeal := hKernelCIdeal)
    ∧ quiescent_KernelCIdeal_pre_pivots (hKernelCIdeal := hKernelCIdeal) (hPre_pivots := hPre_pivots)
    ∧ quiescent_ReferenceCIdeal (hReferenceCIdeal := hReferenceCIdeal)
    ∧ quiescent_ReferenceCIdeal_pre_pivots (hReferenceCIdeal := hReferenceCIdeal) (hPre_pivots := hPre_pivots)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelY_KernelYIdeal
    ∧ algebraic_KernelYIdeal_ReferenceYIdeal_pre_finite_y (hKernelYIdeal := hKernelYIdeal) (hReferenceYIdeal := hReferenceYIdeal) (hPre_finite_y := hPre_finite_y)
    ∧ preserves_KernelF_KernelFIdeal
    ∧ algebraic_KernelFIdeal_ReferenceFIdeal_pre_finite_first (hKernelFIdeal := hKernelFIdeal) (hReferenceFIdeal := hReferenceFIdeal) (hPre_finite_first := hPre_finite_first)
    ∧ preserves_KernelC_KernelCIdeal
    ∧ algebraic_KernelCIdeal_ReferenceCIdeal_pre_pivots (hKernelCIdeal := hKernelCIdeal) (hReferenceCIdeal := hReferenceCIdeal) (hPre_pivots := hPre_pivots)
-- ==== Pre_finite.lean ====
abbrev S1536x245760 : Shape := ⟨2, ![1536, 245760]⟩
abbrev S48x245760 : Shape := ⟨2, ![48, 245760]⟩
abbrev S160x245760 : Shape := ⟨2, ![160, 245760]⟩
abbrev S160x160 : Shape := ⟨2, ![160, 160]⟩
abbrev S_ : Shape := ⟨0, ![]⟩

class Facts : Prop where
  bcast_S_S160x245760 : S_.BroadcastsInDim S160x245760 (![] : Fin 0 → Fin S160x245760.rank)
  reducesTo_S160x245760_S_d0_1 : S160x245760.ReducesTo [0, 1] S_
  h_S_ : 0 < S_.numel
  bcast_S_S160x160 : S_.BroadcastsInDim S160x160 (![] : Fin 0 → Fin S160x160.rank)
  reducesTo_S160x160_S_d0_1 : S160x160.ReducesTo [0, 1] S_

variable [Facts]

def fn {F : FTy → Type} [FloatOps F] (main_arg0 : IVec S1536x245760 8) (main_arg1 : FVec F S48x245760 .f32) (main_arg2 : FVec F S160x245760 .f32) (main_arg3 : FVec F S160x160 .f32) : IVec S_ 1 :=
  let main_v0 : FVec F S160x245760 .f32 := Host.absf main_arg2
  let main_cst : FVec F S_ .f32 := constant S_ .f32 0x7F800000#32
  let main_v1 : FVec F S160x245760 .f32 := broadcastInDim S160x245760 ![] bcast_S_S160x245760 main_cst
  let main_v2 : IVec S160x245760 1 := cmpf .olt main_v0 main_v1
  let main_c : IVec S_ 1 := constantI S_ 1 1#1
  let main_v3 : IVec S_ 1 := (fun x v => Host.reduce IntOp.andi x v reducesTo_S160x245760_S_d0_1 h_S_) main_v2 main_c
  let main_v4 : FVec F S160x160 .f32 := Host.absf main_arg3
  let main_cst_0 : FVec F S_ .f32 := constant S_ .f32 0x7F800000#32
  let main_v5 : FVec F S160x160 .f32 := broadcastInDim S160x160 ![] bcast_S_S160x160 main_cst_0
  let main_v6 : IVec S160x160 1 := cmpf .olt main_v4 main_v5
  let main_c_1 : IVec S_ 1 := constantI S_ 1 1#1
  let main_v7 : IVec S_ 1 := (fun x v => Host.reduce IntOp.andi x v reducesTo_S160x160_S_d0_1 h_S_) main_v6 main_c_1
  let main_v8 : IVec S_ 1 := andi main_v3 main_v7
  main_v8
-- ==== Pre_finite_first.lean ====
abbrev S1x245760x1536 : Shape := ⟨3, ![1, 245760, 1536]⟩
abbrev S48x245760 : Shape := ⟨2, ![48, 245760]⟩
abbrev S160x1536 : Shape := ⟨2, ![160, 1536]⟩
abbrev S_ : Shape := ⟨0, ![]⟩

class Facts : Prop where
  bcast_S_S48x245760 : S_.BroadcastsInDim S48x245760 (![] : Fin 0 → Fin S48x245760.rank)
  reducesTo_S48x245760_S_d0_1 : S48x245760.ReducesTo [0, 1] S_
  h_S_ : 0 < S_.numel
  bitsLt_bf16_f32 : FTy.bits .bf16 < FTy.bits .f32
  bcast_S_S160x1536 : S_.BroadcastsInDim S160x1536 (![] : Fin 0 → Fin S160x1536.rank)
  reducesTo_S160x1536_S_d0_1 : S160x1536.ReducesTo [0, 1] S_

variable [Facts]

def fn {F : FTy → Type} [FloatOps F] (main_arg0 : IVec S1x245760x1536 8) (main_arg1 : FVec F S48x245760 .f32) (main_arg2 : FVec F S160x1536 .bf16) : IVec S_ 1 :=
  let main_v0 : FVec F S48x245760 .f32 := Host.absf main_arg1
  let main_cst : FVec F S_ .f32 := constant S_ .f32 0x7F800000#32
  let main_v1 : FVec F S48x245760 .f32 := broadcastInDim S48x245760 ![] bcast_S_S48x245760 main_cst
  let main_v2 : IVec S48x245760 1 := cmpf .olt main_v0 main_v1
  let main_c : IVec S_ 1 := constantI S_ 1 1#1
  let main_v3 : IVec S_ 1 := (fun x v => Host.reduce IntOp.andi x v reducesTo_S48x245760_S_d0_1 h_S_) main_v2 main_c
  let main_v4 : FVec F S160x1536 .f32 := (extf .f32 · bitsLt_bf16_f32) main_arg2
  let main_v5 : FVec F S160x1536 .f32 := Host.absf main_v4
  let main_cst_0 : FVec F S_ .f32 := constant S_ .f32 0x7F800000#32
  let main_v6 : FVec F S160x1536 .f32 := broadcastInDim S160x1536 ![] bcast_S_S160x1536 main_cst_0
  let main_v7 : IVec S160x1536 1 := cmpf .olt main_v5 main_v6
  let main_c_1 : IVec S_ 1 := constantI S_ 1 1#1
  let main_v8 : IVec S_ 1 := (fun x v => Host.reduce IntOp.andi x v reducesTo_S160x1536_S_d0_1 h_S_) main_v7 main_c_1
  let main_v9 : IVec S_ 1 := andi main_v3 main_v8
  main_v9
-- ==== Pre_finite_y.lean ====
abbrev S1536x245760 : Shape := ⟨2, ![1536, 245760]⟩
abbrev S48x245760 : Shape := ⟨2, ![48, 245760]⟩
abbrev S160x1536 : Shape := ⟨2, ![160, 1536]⟩
abbrev S_ : Shape := ⟨0, ![]⟩

class Facts : Prop where
  bcast_S_S48x245760 : S_.BroadcastsInDim S48x245760 (![] : Fin 0 → Fin S48x245760.rank)
  reducesTo_S48x245760_S_d0_1 : S48x245760.ReducesTo [0, 1] S_
  h_S_ : 0 < S_.numel
  bitsLt_bf16_f32 : FTy.bits .bf16 < FTy.bits .f32
  bcast_S_S160x1536 : S_.BroadcastsInDim S160x1536 (![] : Fin 0 → Fin S160x1536.rank)
  reducesTo_S160x1536_S_d0_1 : S160x1536.ReducesTo [0, 1] S_

variable [Facts]

def fn {F : FTy → Type} [FloatOps F] (main_arg0 : IVec S1536x245760 8) (main_arg1 : FVec F S48x245760 .f32) (main_arg2 : FVec F S160x1536 .bf16) : IVec S_ 1 :=
  let main_v0 : FVec F S48x245760 .f32 := Host.absf main_arg1
  let main_cst : FVec F S_ .f32 := constant S_ .f32 0x7F800000#32
  let main_v1 : FVec F S48x245760 .f32 := broadcastInDim S48x245760 ![] bcast_S_S48x245760 main_cst
  let main_v2 : IVec S48x245760 1 := cmpf .olt main_v0 main_v1
  let main_c : IVec S_ 1 := constantI S_ 1 1#1
  let main_v3 : IVec S_ 1 := (fun x v => Host.reduce IntOp.andi x v reducesTo_S48x245760_S_d0_1 h_S_) main_v2 main_c
  let main_v4 : FVec F S160x1536 .f32 := (extf .f32 · bitsLt_bf16_f32) main_arg2
  let main_v5 : FVec F S160x1536 .f32 := Host.absf main_v4
  let main_cst_0 : FVec F S_ .f32 := constant S_ .f32 0x7F800000#32
  let main_v6 : FVec F S160x1536 .f32 := broadcastInDim S160x1536 ![] bcast_S_S160x1536 main_cst_0
  let main_v7 : IVec S160x1536 1 := cmpf .olt main_v5 main_v6
  let main_c_1 : IVec S_ 1 := constantI S_ 1 1#1
  let main_v8 : IVec S_ 1 := (fun x v => Host.reduce IntOp.andi x v reducesTo_S160x1536_S_d0_1 h_S_) main_v7 main_c_1
  let main_v9 : IVec S_ 1 := andi main_v3 main_v8
  main_v9
-- ==== Pre_pivots.lean ====
abbrev S160x160 : Shape := ⟨2, ![160, 160]⟩
abbrev S_ : Shape := ⟨0, ![]⟩
abbrev S160 : Shape := ⟨1, ![160]⟩
abbrev S160x1 : Shape := ⟨2, ![160, 1]⟩
abbrev S1x160 : Shape := ⟨2, ![1, 160]⟩

class Facts : Prop where
  transposes_S160x160_S160x160_1_0 : S160x160.Transposes [1, 0] S160x160
  bcast_S_S160x160 : S_.BroadcastsInDim S160x160 (![] : Fin 0 → Fin S160x160.rank)
  reducesTo_S160x160_S_d0_1 : S160x160.ReducesTo [0, 1] S_
  h_S_ : 0 < S_.numel
  reducesTo_S160x160_S160_d1 : S160x160.ReducesTo [1] S160
  bcast_S160_S160x1_0 : S160.BroadcastsInDim S160x1 (![0] : Fin 1 → Fin S160x1.rank)
  reducesTo_S160x160_S160_d0 : S160x160.ReducesTo [0] S160
  bcast_S160_S1x160_1 : S160.BroadcastsInDim S1x160 (![1] : Fin 1 → Fin S1x160.rank)
  bcast_S160x1_S160x160_0_1 : S160x1.BroadcastsInDim S160x160 (![0, 1] : Fin 2 → Fin S160x160.rank)
  bcast_S1x160_S160x160_0_1 : S1x160.BroadcastsInDim S160x160 (![0, 1] : Fin 2 → Fin S160x160.rank)

variable [Facts]

def fn_where {F : FTy → Type} [FloatOps F] (arg0 : IVec S160x160 1) (arg1 : FVec F S160x160 .f32) (arg2 : FVec F S_ .f32) : FVec F S160x160 .f32 :=
  let v0 : FVec F S_ .f32 := id arg2
  let v1 : FVec F S160x160 .f32 := broadcastInDim S160x160 ![] bcast_S_S160x160 v0
  let v2 : FVec F S160x160 .f32 := select arg0 arg1 v1
  v2

def fn_eliminate_part1 {F : FTy → Type} [FloatOps F] (arg1 : FVec F S160x160 .f32) (v10 : FVec F S_ .f32) (v16 : FVec F S160x1 .f32) (v19 : IVec S160x160 1) : FVec F S160x160 .f32 × IVec S_ 1 :=
  let cst_3 : FVec F S_ .f32 := constant S_ .f32 0x00000000#32
  let v20 : FVec F S160x160 .f32 := fn_where (F := F) v19 arg1 cst_3
  let cst_4 : FVec F S_ .f32 := constant S_ .f32 0x00000000#32
  let v21 : FVec F S160 .f32 := (fun x v => Host.reduceAdd x v reducesTo_S160x160_S160_d0 h_S_) v20 cst_4
  let v22 : FVec F S1x160 .f32 := broadcastInDim S1x160 ![1] bcast_S160_S1x160_1 v21
  let v23 : FVec F S160x160 .f32 := broadcastInDim S160x160 ![0, 1] bcast_S160x1_S160x160_0_1 v16
  let v24 : FVec F S160x160 .f32 := broadcastInDim S160x160 ![0, 1] bcast_S1x160_S160x160_0_1 v22
  let v25 : FVec F S160x160 .f32 := mulf v23 v24
  let v26 : FVec F S160x160 .f32 := broadcastInDim S160x160 ![] bcast_S_S160x160 v10
  let v27 : FVec F S160x160 .f32 := Host.divf v25 v26
  let v28 : FVec F S160x160 .f32 := subf arg1 v27
  let cst_5 : FVec F S_ .f32 := constant S_ .f32 0x00000000#32
  let v29 : IVec S_ 1 := cmpf .ogt v10 cst_5
  (v28, v29)

def fn_eliminate {F : FTy → Type} [FloatOps F] (arg0 : IVec S_ 32) (arg1 : FVec F S160x160 .f32) : FVec F S160x160 .f32 × IVec S_ 1 :=
  let v0 : IVec S160x160 32 := iotaInDim S160x160 32 0
  let v1 : IVec S160x160 32 := iotaInDim S160x160 32 1
  let v2 : IVec S_ 32 := id arg0
  let v3 : IVec S160x160 32 := broadcastInDim S160x160 ![] bcast_S_S160x160 v2
  let v4 : IVec S160x160 1 := cmpi .eq v0 v3
  let v5 : IVec S_ 32 := id arg0
  let v6 : IVec S160x160 32 := broadcastInDim S160x160 ![] bcast_S_S160x160 v5
  let v7 : IVec S160x160 1 := cmpi .eq v1 v6
  let v8 : IVec S160x160 1 := andi v4 v7
  let cst : FVec F S_ .f32 := constant S_ .f32 0x00000000#32
  let v9 : FVec F S160x160 .f32 := fn_where (F := F) v8 arg1 cst
  let cst_0 : FVec F S_ .f32 := constant S_ .f32 0x00000000#32
  let v10 : FVec F S_ .f32 := (fun x v => Host.reduceAdd x v reducesTo_S160x160_S_d0_1 h_S_) v9 cst_0
  let v11 : IVec S_ 32 := id arg0
  let v12 : IVec S160x160 32 := broadcastInDim S160x160 ![] bcast_S_S160x160 v11
  let v13 : IVec S160x160 1 := cmpi .eq v1 v12
  let cst_1 : FVec F S_ .f32 := constant S_ .f32 0x00000000#32
  let v14 : FVec F S160x160 .f32 := fn_where (F := F) v13 arg1 cst_1
  let cst_2 : FVec F S_ .f32 := constant S_ .f32 0x00000000#32
  let v15 : FVec F S160 .f32 := (fun x v => Host.reduceAdd x v reducesTo_S160x160_S160_d1 h_S_) v14 cst_2
  let v16 : FVec F S160x1 .f32 := broadcastInDim S160x1 ![0] bcast_S160_S160x1_0 v15
  let v17 : IVec S_ 32 := id arg0
  let v18 : IVec S160x160 32 := broadcastInDim S160x160 ![] bcast_S_S160x160 v17
  let v19 : IVec S160x160 1 := cmpi .eq v0 v18
  fn_eliminate_part1 (F := F) arg1 v10 v16 v19

def fn_part27 {F : FTy → Type} [FloatOps F] (main_v326_0 : FVec F S160x160 .f32) (main_v327 : IVec S_ 1) : IVec S_ 1 :=
  let main_c_160 : IVec S_ 32 := constantI S_ 32 158#32
  let main_v328_0 : FVec F S160x160 .f32 := (fn_eliminate (F := F) main_c_160 main_v326_0).1
  let main_v328_1 : IVec S_ 1 := (fn_eliminate (F := F) main_c_160 main_v326_0).2
  let main_v329 : IVec S_ 1 := andi main_v327 main_v328_1
  let main_c_161 : IVec S_ 32 := constantI S_ 32 159#32
  let main_v330_0 : FVec F S160x160 .f32 := (fn_eliminate (F := F) main_c_161 main_v328_0).1
  let main_v330_1 : IVec S_ 1 := (fn_eliminate (F := F) main_c_161 main_v328_0).2
  let main_v331 : IVec S_ 1 := andi main_v329 main_v330_1
  main_v331

def fn_part26 {F : FTy → Type} [FloatOps F] (main_v314_0 : FVec F S160x160 .f32) (main_v315 : IVec S_ 1) : IVec S_ 1 :=
  let main_c_154 : IVec S_ 32 := constantI S_ 32 152#32
  let main_v316_0 : FVec F S160x160 .f32 := (fn_eliminate (F := F) main_c_154 main_v314_0).1
  let main_v316_1 : IVec S_ 1 := (fn_eliminate (F := F) main_c_154 main_v314_0).2
  let main_v317 : IVec S_ 1 := andi main_v315 main_v316_1
  let main_c_155 : IVec S_ 32 := constantI S_ 32 153#32
  let main_v318_0 : FVec F S160x160 .f32 := (fn_eliminate (F := F) main_c_155 main_v316_0).1
  let main_v318_1 : IVec S_ 1 := (fn_eliminate (F := F) main_c_155 main_v316_0).2
  let main_v319 : IVec S_ 1 := andi main_v317 main_v318_1
  let main_c_156 : IVec S_ 32 := constantI S_ 32 154#32
  let main_v320_0 : FVec F S160x160 .f32 := (fn_eliminate (F := F) main_c_156 main_v318_0).1
  let main_v320_1 : IVec S_ 1 := (fn_eliminate (F := F) main_c_156 main_v318_0).2
  let main_v321 : IVec S_ 1 := andi main_v319 main_v320_1
  let main_c_157 : IVec S_ 32 := constantI S_ 32 155#32
  let main_v322_0 : FVec F S160x160 .f32 := (fn_eliminate (F := F) main_c_157 main_v320_0).1
  let main_v322_1 : IVec S_ 1 := (fn_eliminate (F := F) main_c_157 main_v320_0).2
  let main_v323 : IVec S_ 1 := andi main_v321 main_v322_1
  let main_c_158 : IVec S_ 32 := constantI S_ 32 156#32
  let main_v324_0 : FVec F S160x160 .f32 := (fn_eliminate (F := F) main_c_158 main_v322_0).1
  let main_v324_1 : IVec S_ 1 := (fn_eliminate (F := F) main_c_158 main_v322_0).2
  let main_v325 : IVec S_ 1 := andi main_v323 main_v324_1
  let main_c_159 : IVec S_ 32 := constantI S_ 32 157#32
  let main_v326_0 : FVec F S160x160 .f32 := (fn_eliminate (F := F) main_c_159 main_v324_0).1
  let main_v326_1 : IVec S_ 1 := (fn_eliminate (F := F) main_c_159 main_v324_0).2
  let main_v327 : IVec S_ 1 := andi main_v325 main_v326_1
  fn_part27 (F := F) main_v326_0 main_v327

def fn_part25 {F : FTy → Type} [FloatOps F] (main_v302_0 : FVec F S160x160 .f32) (main_v303 : IVec S_ 1) : IVec S_ 1 :=
  let main_c_148 : IVec S_ 32 := constantI S_ 32 146#32
  let main_v304_0 : FVec F S160x160 .f32 := (fn_eliminate (F := F) main_c_148 main_v302_0).1
  let main_v304_1 : IVec S_ 1 := (fn_eliminate (F := F) main_c_148 main_v302_0).2
  let main_v305 : IVec S_ 1 := andi main_v303 main_v304_1
  let main_c_149 : IVec S_ 32 := constantI S_ 32 147#32
  let main_v306_0 : FVec F S160x160 .f32 := (fn_eliminate (F := F) main_c_149 main_v304_0).1
  let main_v306_1 : IVec S_ 1 := (fn_eliminate (F := F) main_c_149 main_v304_0).2
  let main_v307 : IVec S_ 1 := andi main_v305 main_v306_1
  let main_c_150 : IVec S_ 32 := constantI S_ 32 148#32
  let main_v308_0 : FVec F S160x160 .f32 := (fn_eliminate (F := F) main_c_150 main_v306_0).1
  let main_v308_1 : IVec S_ 1 := (fn_eliminate (F := F) main_c_150 main_v306_0).2
  let main_v309 : IVec S_ 1 := andi main_v307 main_v308_1
  let main_c_151 : IVec S_ 32 := constantI S_ 32 149#32
  let main_v310_0 : FVec F S160x160 .f32 := (fn_eliminate (F := F) main_c_151 main_v308_0).1
  let main_v310_1 : IVec S_ 1 := (fn_eliminate (F := F) main_c_151 main_v308_0).2
  let main_v311 : IVec S_ 1 := andi main_v309 main_v310_1
  let main_c_152 : IVec S_ 32 := constantI S_ 32 150#32
  let main_v312_0 : FVec F S160x160 .f32 := (fn_eliminate (F := F) main_c_152 main_v310_0).1
  let main_v312_1 : IVec S_ 1 := (fn_eliminate (F := F) main_c_152 main_v310_0).2
  let main_v313 : IVec S_ 1 := andi main_v311 main_v312_1
  let main_c_153 : IVec S_ 32 := constantI S_ 32 151#32
  let main_v314_0 : FVec F S160x160 .f32 := (fn_eliminate (F := F) main_c_153 main_v312_0).1
  let main_v314_1 : IVec S_ 1 := (fn_eliminate (F := F) main_c_153 main_v312_0).2
  let main_v315 : IVec S_ 1 := andi main_v313 main_v314_1
  fn_part26 (F := F) main_v314_0 main_v315

def fn_part24 {F : FTy → Type} [FloatOps F] (main_v290_0 : FVec F S160x160 .f32) (main_v291 : IVec S_ 1) : IVec S_ 1 :=
  let main_c_142 : IVec S_ 32 := constantI S_ 32 140#32
  let main_v292_0 : FVec F S160x160 .f32 := (fn_eliminate (F := F) main_c_142 main_v290_0).1
  let main_v292_1 : IVec S_ 1 := (fn_eliminate (F := F) main_c_142 main_v290_0).2
  let main_v293 : IVec S_ 1 := andi main_v291 main_v292_1
  let main_c_143 : IVec S_ 32 := constantI S_ 32 141#32
  let main_v294_0 : FVec F S160x160 .f32 := (fn_eliminate (F := F) main_c_143 main_v292_0).1
  let main_v294_1 : IVec S_ 1 := (fn_eliminate (F := F) main_c_143 main_v292_0).2
  let main_v295 : IVec S_ 1 := andi main_v293 main_v294_1
  let main_c_144 : IVec S_ 32 := constantI S_ 32 142#32
  let main_v296_0 : FVec F S160x160 .f32 := (fn_eliminate (F := F) main_c_144 main_v294_0).1
  let main_v296_1 : IVec S_ 1 := (fn_eliminate (F := F) main_c_144 main_v294_0).2
  let main_v297 : IVec S_ 1 := andi main_v295 main_v296_1
  let main_c_145 : IVec S_ 32 := constantI S_ 32 143#32
  let main_v298_0 : FVec F S160x160 .f32 := (fn_eliminate (F := F) main_c_145 main_v296_0).1
  let main_v298_1 : IVec S_ 1 := (fn_eliminate (F := F) main_c_145 main_v296_0).2
  let main_v299 : IVec S_ 1 := andi main_v297 main_v298_1
  let main_c_146 : IVec S_ 32 := constantI S_ 32 144#32
  let main_v300_0 : FVec F S160x160 .f32 := (fn_eliminate (F := F) main_c_146 main_v298_0).1
  let main_v300_1 : IVec S_ 1 := (fn_eliminate (F := F) main_c_146 main_v298_0).2
  let main_v301 : IVec S_ 1 := andi main_v299 main_v300_1
  let main_c_147 : IVec S_ 32 := constantI S_ 32 145#32
  let main_v302_0 : FVec F S160x160 .f32 := (fn_eliminate (F := F) main_c_147 main_v300_0).1
  let main_v302_1 : IVec S_ 1 := (fn_eliminate (F := F) main_c_147 main_v300_0).2
  let main_v303 : IVec S_ 1 := andi main_v301 main_v302_1
  fn_part25 (F := F) main_v302_0 main_v303

def fn_part23 {F : FTy → Type} [FloatOps F] (main_v278_0 : FVec F S160x160 .f32) (main_v279 : IVec S_ 1) : IVec S_ 1 :=
  let main_c_136 : IVec S_ 32 := constantI S_ 32 134#32
  let main_v280_0 : FVec F S160x160 .f32 := (fn_eliminate (F := F) main_c_136 main_v278_0).1
  let main_v280_1 : IVec S_ 1 := (fn_eliminate (F := F) main_c_136 main_v278_0).2
  let main_v281 : IVec S_ 1 := andi main_v279 main_v280_1
  let main_c_137 : IVec S_ 32 := constantI S_ 32 135#32
  let main_v282_0 : FVec F S160x160 .f32 := (fn_eliminate (F := F) main_c_137 main_v280_0).1
  let main_v282_1 : IVec S_ 1 := (fn_eliminate (F := F) main_c_137 main_v280_0).2
  let main_v283 : IVec S_ 1 := andi main_v281 main_v282_1
  let main_c_138 : IVec S_ 32 := constantI S_ 32 136#32
  let main_v284_0 : FVec F S160x160 .f32 := (fn_eliminate (F := F) main_c_138 main_v282_0).1
  let main_v284_1 : IVec S_ 1 := (fn_eliminate (F := F) main_c_138 main_v282_0).2
  let main_v285 : IVec S_ 1 := andi main_v283 main_v284_1
  let main_c_139 : IVec S_ 32 := constantI S_ 32 137#32
  let main_v286_0 : FVec F S160x160 .f32 := (fn_eliminate (F := F) main_c_139 main_v284_0).1
  let main_v286_1 : IVec S_ 1 := (fn_eliminate (F := F) main_c_139 main_v284_0).2
  let main_v287 : IVec S_ 1 := andi main_v285 main_v286_1
  let main_c_140 : IVec S_ 32 := constantI S_ 32 138#32
  let main_v288_0 : FVec F S160x160 .f32 := (fn_eliminate (F := F) main_c_140 main_v286_0).1
  let main_v288_1 : IVec S_ 1 := (fn_eliminate (F := F) main_c_140 main_v286_0).2
  let main_v289 : IVec S_ 1 := andi main_v287 main_v288_1
  let main_c_141 : IVec S_ 32 := constantI S_ 32 139#32
  let main_v290_0 : FVec F S160x160 .f32 := (fn_eliminate (F := F) main_c_141 main_v288_0).1
  let main_v290_1 : IVec S_ 1 := (fn_eliminate (F := F) main_c_141 main_v288_0).2
  let main_v291 : IVec S_ 1 := andi main_v289 main_v290_1
  fn_part24 (F := F) main_v290_0 main_v291

def fn_part22 {F : FTy → Type} [FloatOps F] (main_v266_0 : FVec F S160x160 .f32) (main_v267 : IVec S_ 1) : IVec S_ 1 :=
  let main_c_130 : IVec S_ 32 := constantI S_ 32 128#32
  let main_v268_0 : FVec F S160x160 .f32 := (fn_eliminate (F := F) main_c_130 main_v266_0).1
  let main_v268_1 : IVec S_ 1 := (fn_eliminate (F := F) main_c_130 main_v266_0).2
  let main_v269 : IVec S_ 1 := andi main_v267 main_v268_1
  let main_c_131 : IVec S_ 32 := constantI S_ 32 129#32
  let main_v270_0 : FVec F S160x160 .f32 := (fn_eliminate (F := F) main_c_131 main_v268_0).1
  let main_v270_1 : IVec S_ 1 := (fn_eliminate (F := F) main_c_131 main_v268_0).2
  let main_v271 : IVec S_ 1 := andi main_v269 main_v270_1
  let main_c_132 : IVec S_ 32 := constantI S_ 32 130#32
  let main_v272_0 : FVec F S160x160 .f32 := (fn_eliminate (F := F) main_c_132 main_v270_0).1
  let main_v272_1 : IVec S_ 1 := (fn_eliminate (F := F) main_c_132 main_v270_0).2
  let main_v273 : IVec S_ 1 := andi main_v271 main_v272_1
  let main_c_133 : IVec S_ 32 := constantI S_ 32 131#32
  let main_v274_0 : FVec F S160x160 .f32 := (fn_eliminate (F := F) main_c_133 main_v272_0).1
  let main_v274_1 : IVec S_ 1 := (fn_eliminate (F := F) main_c_133 main_v272_0).2
  let main_v275 : IVec S_ 1 := andi main_v273 main_v274_1
  let main_c_134 : IVec S_ 32 := constantI S_ 32 132#32
  let main_v276_0 : FVec F S160x160 .f32 := (fn_eliminate (F := F) main_c_134 main_v274_0).1
  let main_v276_1 : IVec S_ 1 := (fn_eliminate (F := F) main_c_134 main_v274_0).2
  let main_v277 : IVec S_ 1 := andi main_v275 main_v276_1
  let main_c_135 : IVec S_ 32 := constantI S_ 32 133#32
  let main_v278_0 : FVec F S160x160 .f32 := (fn_eliminate (F := F) main_c_135 main_v276_0).1
  let main_v278_1 : IVec S_ 1 := (fn_eliminate (F := F) main_c_135 main_v276_0).2
  let main_v279 : IVec S_ 1 := andi main_v277 main_v278_1
  fn_part23 (F := F) main_v278_0 main_v279

def fn_part21 {F : FTy → Type} [FloatOps F] (main_v254_0 : FVec F S160x160 .f32) (main_v255 : IVec S_ 1) : IVec S_ 1 :=
  let main_c_124 : IVec S_ 32 := constantI S_ 32 122#32
  let main_v256_0 : FVec F S160x160 .f32 := (fn_eliminate (F := F) main_c_124 main_v254_0).1
  let main_v256_1 : IVec S_ 1 := (fn_eliminate (F := F) main_c_124 main_v254_0).2
  let main_v257 : IVec S_ 1 := andi main_v255 main_v256_1
  let main_c_125 : IVec S_ 32 := constantI S_ 32 123#32
  let main_v258_0 : FVec F S160x160 .f32 := (fn_eliminate (F := F) main_c_125 main_v256_0).1
  let main_v258_1 : IVec S_ 1 := (fn_eliminate (F := F) main_c_125 main_v256_0).2
  let main_v259 : IVec S_ 1 := andi main_v257 main_v258_1
  let main_c_126 : IVec S_ 32 := constantI S_ 32 124#32
  let main_v260_0 : FVec F S160x160 .f32 := (fn_eliminate (F := F) main_c_126 main_v258_0).1
  let main_v260_1 : IVec S_ 1 := (fn_eliminate (F := F) main_c_126 main_v258_0).2
  let main_v261 : IVec S_ 1 := andi main_v259 main_v260_1
  let main_c_127 : IVec S_ 32 := constantI S_ 32 125#32
  let main_v262_0 : FVec F S160x160 .f32 := (fn_eliminate (F := F) main_c_127 main_v260_0).1
  let main_v262_1 : IVec S_ 1 := (fn_eliminate (F := F) main_c_127 main_v260_0).2
  let main_v263 : IVec S_ 1 := andi main_v261 main_v262_1
  let main_c_128 : IVec S_ 32 := constantI S_ 32 126#32
  let main_v264_0 : FVec F S160x160 .f32 := (fn_eliminate (F := F) main_c_128 main_v262_0).1
  let main_v264_1 : IVec S_ 1 := (fn_eliminate (F := F) main_c_128 main_v262_0).2
  let main_v265 : IVec S_ 1 := andi main_v263 main_v264_1
  let main_c_129 : IVec S_ 32 := constantI S_ 32 127#32
  let main_v266_0 : FVec F S160x160 .f32 := (fn_eliminate (F := F) main_c_129 main_v264_0).1
  let main_v266_1 : IVec S_ 1 := (fn_eliminate (F := F) main_c_129 main_v264_0).2
  let main_v267 : IVec S_ 1 := andi main_v265 main_v266_1
  fn_part22 (F := F) main_v266_0 main_v267

def fn_part20 {F : FTy → Type} [FloatOps F] (main_v242_0 : FVec F S160x160 .f32) (main_v243 : IVec S_ 1) : IVec S_ 1 :=
  let main_c_118 : IVec S_ 32 := constantI S_ 32 116#32
  let main_v244_0 : FVec F S160x160 .f32 := (fn_eliminate (F := F) main_c_118 main_v242_0).1
  let main_v244_1 : IVec S_ 1 := (fn_eliminate (F := F) main_c_118 main_v242_0).2
  let main_v245 : IVec S_ 1 := andi main_v243 main_v244_1
  let main_c_119 : IVec S_ 32 := constantI S_ 32 117#32
  let main_v246_0 : FVec F S160x160 .f32 := (fn_eliminate (F := F) main_c_119 main_v244_0).1
  let main_v246_1 : IVec S_ 1 := (fn_eliminate (F := F) main_c_119 main_v244_0).2
  let main_v247 : IVec S_ 1 := andi main_v245 main_v246_1
  let main_c_120 : IVec S_ 32 := constantI S_ 32 118#32
  let main_v248_0 : FVec F S160x160 .f32 := (fn_eliminate (F := F) main_c_120 main_v246_0).1
  let main_v248_1 : IVec S_ 1 := (fn_eliminate (F := F) main_c_120 main_v246_0).2
  let main_v249 : IVec S_ 1 := andi main_v247 main_v248_1
  let main_c_121 : IVec S_ 32 := constantI S_ 32 119#32
  let main_v250_0 : FVec F S160x160 .f32 := (fn_eliminate (F := F) main_c_121 main_v248_0).1
  let main_v250_1 : IVec S_ 1 := (fn_eliminate (F := F) main_c_121 main_v248_0).2
  let main_v251 : IVec S_ 1 := andi main_v249 main_v250_1
  let main_c_122 : IVec S_ 32 := constantI S_ 32 120#32
  let main_v252_0 : FVec F S160x160 .f32 := (fn_eliminate (F := F) main_c_122 main_v250_0).1
  let main_v252_1 : IVec S_ 1 := (fn_eliminate (F := F) main_c_122 main_v250_0).2
  let main_v253 : IVec S_ 1 := andi main_v251 main_v252_1
  let main_c_123 : IVec S_ 32 := constantI S_ 32 121#32
  let main_v254_0 : FVec F S160x160 .f32 := (fn_eliminate (F := F) main_c_123 main_v252_0).1
  let main_v254_1 : IVec S_ 1 := (fn_eliminate (F := F) main_c_123 main_v252_0).2
  let main_v255 : IVec S_ 1 := andi main_v253 main_v254_1
  fn_part21 (F := F) main_v254_0 main_v255

def fn_part19 {F : FTy → Type} [FloatOps F] (main_v230_0 : FVec F S160x160 .f32) (main_v231 : IVec S_ 1) : IVec S_ 1 :=
  let main_c_112 : IVec S_ 32 := constantI S_ 32 110#32
  let main_v232_0 : FVec F S160x160 .f32 := (fn_eliminate (F := F) main_c_112 main_v230_0).1
  let main_v232_1 : IVec S_ 1 := (fn_eliminate (F := F) main_c_112 main_v230_0).2
  let main_v233 : IVec S_ 1 := andi main_v231 main_v232_1
  let main_c_113 : IVec S_ 32 := constantI S_ 32 111#32
  let main_v234_0 : FVec F S160x160 .f32 := (fn_eliminate (F := F) main_c_113 main_v232_0).1
  let main_v234_1 : IVec S_ 1 := (fn_eliminate (F := F) main_c_113 main_v232_0).2
  let main_v235 : IVec S_ 1 := andi main_v233 main_v234_1
  let main_c_114 : IVec S_ 32 := constantI S_ 32 112#32
  let main_v236_0 : FVec F S160x160 .f32 := (fn_eliminate (F := F) main_c_114 main_v234_0).1
  let main_v236_1 : IVec S_ 1 := (fn_eliminate (F := F) main_c_114 main_v234_0).2
  let main_v237 : IVec S_ 1 := andi main_v235 main_v236_1
  let main_c_115 : IVec S_ 32 := constantI S_ 32 113#32
  let main_v238_0 : FVec F S160x160 .f32 := (fn_eliminate (F := F) main_c_115 main_v236_0).1
  let main_v238_1 : IVec S_ 1 := (fn_eliminate (F := F) main_c_115 main_v236_0).2
  let main_v239 : IVec S_ 1 := andi main_v237 main_v238_1
  let main_c_116 : IVec S_ 32 := constantI S_ 32 114#32
  let main_v240_0 : FVec F S160x160 .f32 := (fn_eliminate (F := F) main_c_116 main_v238_0).1
  let main_v240_1 : IVec S_ 1 := (fn_eliminate (F := F) main_c_116 main_v238_0).2
  let main_v241 : IVec S_ 1 := andi main_v239 main_v240_1
  let main_c_117 : IVec S_ 32 := constantI S_ 32 115#32
  let main_v242_0 : FVec F S160x160 .f32 := (fn_eliminate (F := F) main_c_117 main_v240_0).1
  let main_v242_1 : IVec S_ 1 := (fn_eliminate (F := F) main_c_117 main_v240_0).2
  let main_v243 : IVec S_ 1 := andi main_v241 main_v242_1
  fn_part20 (F := F) main_v242_0 main_v243

def fn_part18 {F : FTy → Type} [FloatOps F] (main_v218_0 : FVec F S160x160 .f32) (main_v219 : IVec S_ 1) : IVec S_ 1 :=
  let main_c_106 : IVec S_ 32 := constantI S_ 32 104#32
  let main_v220_0 : FVec F S160x160 .f32 := (fn_eliminate (F := F) main_c_106 main_v218_0).1
  let main_v220_1 : IVec S_ 1 := (fn_eliminate (F := F) main_c_106 main_v218_0).2
  let main_v221 : IVec S_ 1 := andi main_v219 main_v220_1
  let main_c_107 : IVec S_ 32 := constantI S_ 32 105#32
  let main_v222_0 : FVec F S160x160 .f32 := (fn_eliminate (F := F) main_c_107 main_v220_0).1
  let main_v222_1 : IVec S_ 1 := (fn_eliminate (F := F) main_c_107 main_v220_0).2
  let main_v223 : IVec S_ 1 := andi main_v221 main_v222_1
  let main_c_108 : IVec S_ 32 := constantI S_ 32 106#32
  let main_v224_0 : FVec F S160x160 .f32 := (fn_eliminate (F := F) main_c_108 main_v222_0).1
  let main_v224_1 : IVec S_ 1 := (fn_eliminate (F := F) main_c_108 main_v222_0).2
  let main_v225 : IVec S_ 1 := andi main_v223 main_v224_1
  let main_c_109 : IVec S_ 32 := constantI S_ 32 107#32
  let main_v226_0 : FVec F S160x160 .f32 := (fn_eliminate (F := F) main_c_109 main_v224_0).1
  let main_v226_1 : IVec S_ 1 := (fn_eliminate (F := F) main_c_109 main_v224_0).2
  let main_v227 : IVec S_ 1 := andi main_v225 main_v226_1
  let main_c_110 : IVec S_ 32 := constantI S_ 32 108#32
  let main_v228_0 : FVec F S160x160 .f32 := (fn_eliminate (F := F) main_c_110 main_v226_0).1
  let main_v228_1 : IVec S_ 1 := (fn_eliminate (F := F) main_c_110 main_v226_0).2
  let main_v229 : IVec S_ 1 := andi main_v227 main_v228_1
  let main_c_111 : IVec S_ 32 := constantI S_ 32 109#32
  let main_v230_0 : FVec F S160x160 .f32 := (fn_eliminate (F := F) main_c_111 main_v228_0).1
  let main_v230_1 : IVec S_ 1 := (fn_eliminate (F := F) main_c_111 main_v228_0).2
  let main_v231 : IVec S_ 1 := andi main_v229 main_v230_1
  fn_part19 (F := F) main_v230_0 main_v231

def fn_part17 {F : FTy → Type} [FloatOps F] (main_v206_0 : FVec F S160x160 .f32) (main_v207 : IVec S_ 1) : IVec S_ 1 :=
  let main_c_100 : IVec S_ 32 := constantI S_ 32 98#32
  let main_v208_0 : FVec F S160x160 .f32 := (fn_eliminate (F := F) main_c_100 main_v206_0).1
  let main_v208_1 : IVec S_ 1 := (fn_eliminate (F := F) main_c_100 main_v206_0).2
  let main_v209 : IVec S_ 1 := andi main_v207 main_v208_1
  let main_c_101 : IVec S_ 32 := constantI S_ 32 99#32
  let main_v210_0 : FVec F S160x160 .f32 := (fn_eliminate (F := F) main_c_101 main_v208_0).1
  let main_v210_1 : IVec S_ 1 := (fn_eliminate (F := F) main_c_101 main_v208_0).2
  let main_v211 : IVec S_ 1 := andi main_v209 main_v210_1
  let main_c_102 : IVec S_ 32 := constantI S_ 32 100#32
  let main_v212_0 : FVec F S160x160 .f32 := (fn_eliminate (F := F) main_c_102 main_v210_0).1
  let main_v212_1 : IVec S_ 1 := (fn_eliminate (F := F) main_c_102 main_v210_0).2
  let main_v213 : IVec S_ 1 := andi main_v211 main_v212_1
  let main_c_103 : IVec S_ 32 := constantI S_ 32 101#32
  let main_v214_0 : FVec F S160x160 .f32 := (fn_eliminate (F := F) main_c_103 main_v212_0).1
  let main_v214_1 : IVec S_ 1 := (fn_eliminate (F := F) main_c_103 main_v212_0).2
  let main_v215 : IVec S_ 1 := andi main_v213 main_v214_1
  let main_c_104 : IVec S_ 32 := constantI S_ 32 102#32
  let main_v216_0 : FVec F S160x160 .f32 := (fn_eliminate (F := F) main_c_104 main_v214_0).1
  let main_v216_1 : IVec S_ 1 := (fn_eliminate (F := F) main_c_104 main_v214_0).2
  let main_v217 : IVec S_ 1 := andi main_v215 main_v216_1
  let main_c_105 : IVec S_ 32 := constantI S_ 32 103#32
  let main_v218_0 : FVec F S160x160 .f32 := (fn_eliminate (F := F) main_c_105 main_v216_0).1
  let main_v218_1 : IVec S_ 1 := (fn_eliminate (F := F) main_c_105 main_v216_0).2
  let main_v219 : IVec S_ 1 := andi main_v217 main_v218_1
  fn_part18 (F := F) main_v218_0 main_v219

def fn_part16 {F : FTy → Type} [FloatOps F] (main_v194_0 : FVec F S160x160 .f32) (main_v195 : IVec S_ 1) : IVec S_ 1 :=
  let main_c_94 : IVec S_ 32 := constantI S_ 32 92#32
  let main_v196_0 : FVec F S160x160 .f32 := (fn_eliminate (F := F) main_c_94 main_v194_0).1
  let main_v196_1 : IVec S_ 1 := (fn_eliminate (F := F) main_c_94 main_v194_0).2
  let main_v197 : IVec S_ 1 := andi main_v195 main_v196_1
  let main_c_95 : IVec S_ 32 := constantI S_ 32 93#32
  let main_v198_0 : FVec F S160x160 .f32 := (fn_eliminate (F := F) main_c_95 main_v196_0).1
  let main_v198_1 : IVec S_ 1 := (fn_eliminate (F := F) main_c_95 main_v196_0).2
  let main_v199 : IVec S_ 1 := andi main_v197 main_v198_1
  let main_c_96 : IVec S_ 32 := constantI S_ 32 94#32
  let main_v200_0 : FVec F S160x160 .f32 := (fn_eliminate (F := F) main_c_96 main_v198_0).1
  let main_v200_1 : IVec S_ 1 := (fn_eliminate (F := F) main_c_96 main_v198_0).2
  let main_v201 : IVec S_ 1 := andi main_v199 main_v200_1
  let main_c_97 : IVec S_ 32 := constantI S_ 32 95#32
  let main_v202_0 : FVec F S160x160 .f32 := (fn_eliminate (F := F) main_c_97 main_v200_0).1
  let main_v202_1 : IVec S_ 1 := (fn_eliminate (F := F) main_c_97 main_v200_0).2
  let main_v203 : IVec S_ 1 := andi main_v201 main_v202_1
  let main_c_98 : IVec S_ 32 := constantI S_ 32 96#32
  let main_v204_0 : FVec F S160x160 .f32 := (fn_eliminate (F := F) main_c_98 main_v202_0).1
  let main_v204_1 : IVec S_ 1 := (fn_eliminate (F := F) main_c_98 main_v202_0).2
  let main_v205 : IVec S_ 1 := andi main_v203 main_v204_1
  let main_c_99 : IVec S_ 32 := constantI S_ 32 97#32
  let main_v206_0 : FVec F S160x160 .f32 := (fn_eliminate (F := F) main_c_99 main_v204_0).1
  let main_v206_1 : IVec S_ 1 := (fn_eliminate (F := F) main_c_99 main_v204_0).2
  let main_v207 : IVec S_ 1 := andi main_v205 main_v206_1
  fn_part17 (F := F) main_v206_0 main_v207

def fn_part15 {F : FTy → Type} [FloatOps F] (main_v182_0 : FVec F S160x160 .f32) (main_v183 : IVec S_ 1) : IVec S_ 1 :=
  let main_c_88 : IVec S_ 32 := constantI S_ 32 86#32
  let main_v184_0 : FVec F S160x160 .f32 := (fn_eliminate (F := F) main_c_88 main_v182_0).1
  let main_v184_1 : IVec S_ 1 := (fn_eliminate (F := F) main_c_88 main_v182_0).2
  let main_v185 : IVec S_ 1 := andi main_v183 main_v184_1
  let main_c_89 : IVec S_ 32 := constantI S_ 32 87#32
  let main_v186_0 : FVec F S160x160 .f32 := (fn_eliminate (F := F) main_c_89 main_v184_0).1
  let main_v186_1 : IVec S_ 1 := (fn_eliminate (F := F) main_c_89 main_v184_0).2
  let main_v187 : IVec S_ 1 := andi main_v185 main_v186_1
  let main_c_90 : IVec S_ 32 := constantI S_ 32 88#32
  let main_v188_0 : FVec F S160x160 .f32 := (fn_eliminate (F := F) main_c_90 main_v186_0).1
  let main_v188_1 : IVec S_ 1 := (fn_eliminate (F := F) main_c_90 main_v186_0).2
  let main_v189 : IVec S_ 1 := andi main_v187 main_v188_1
  let main_c_91 : IVec S_ 32 := constantI S_ 32 89#32
  let main_v190_0 : FVec F S160x160 .f32 := (fn_eliminate (F := F) main_c_91 main_v188_0).1
  let main_v190_1 : IVec S_ 1 := (fn_eliminate (F := F) main_c_91 main_v188_0).2
  let main_v191 : IVec S_ 1 := andi main_v189 main_v190_1
  let main_c_92 : IVec S_ 32 := constantI S_ 32 90#32
  let main_v192_0 : FVec F S160x160 .f32 := (fn_eliminate (F := F) main_c_92 main_v190_0).1
  let main_v192_1 : IVec S_ 1 := (fn_eliminate (F := F) main_c_92 main_v190_0).2
  let main_v193 : IVec S_ 1 := andi main_v191 main_v192_1
  let main_c_93 : IVec S_ 32 := constantI S_ 32 91#32
  let main_v194_0 : FVec F S160x160 .f32 := (fn_eliminate (F := F) main_c_93 main_v192_0).1
  let main_v194_1 : IVec S_ 1 := (fn_eliminate (F := F) main_c_93 main_v192_0).2
  let main_v195 : IVec S_ 1 := andi main_v193 main_v194_1
  fn_part16 (F := F) main_v194_0 main_v195

def fn_part14 {F : FTy → Type} [FloatOps F] (main_v170_0 : FVec F S160x160 .f32) (main_v171 : IVec S_ 1) : IVec S_ 1 :=
  let main_c_82 : IVec S_ 32 := constantI S_ 32 80#32
  let main_v172_0 : FVec F S160x160 .f32 := (fn_eliminate (F := F) main_c_82 main_v170_0).1
  let main_v172_1 : IVec S_ 1 := (fn_eliminate (F := F) main_c_82 main_v170_0).2
  let main_v173 : IVec S_ 1 := andi main_v171 main_v172_1
  let main_c_83 : IVec S_ 32 := constantI S_ 32 81#32
  let main_v174_0 : FVec F S160x160 .f32 := (fn_eliminate (F := F) main_c_83 main_v172_0).1
  let main_v174_1 : IVec S_ 1 := (fn_eliminate (F := F) main_c_83 main_v172_0).2
  let main_v175 : IVec S_ 1 := andi main_v173 main_v174_1
  let main_c_84 : IVec S_ 32 := constantI S_ 32 82#32
  let main_v176_0 : FVec F S160x160 .f32 := (fn_eliminate (F := F) main_c_84 main_v174_0).1
  let main_v176_1 : IVec S_ 1 := (fn_eliminate (F := F) main_c_84 main_v174_0).2
  let main_v177 : IVec S_ 1 := andi main_v175 main_v176_1
  let main_c_85 : IVec S_ 32 := constantI S_ 32 83#32
  let main_v178_0 : FVec F S160x160 .f32 := (fn_eliminate (F := F) main_c_85 main_v176_0).1
  let main_v178_1 : IVec S_ 1 := (fn_eliminate (F := F) main_c_85 main_v176_0).2
  let main_v179 : IVec S_ 1 := andi main_v177 main_v178_1
  let main_c_86 : IVec S_ 32 := constantI S_ 32 84#32
  let main_v180_0 : FVec F S160x160 .f32 := (fn_eliminate (F := F) main_c_86 main_v178_0).1
  let main_v180_1 : IVec S_ 1 := (fn_eliminate (F := F) main_c_86 main_v178_0).2
  let main_v181 : IVec S_ 1 := andi main_v179 main_v180_1
  let main_c_87 : IVec S_ 32 := constantI S_ 32 85#32
  let main_v182_0 : FVec F S160x160 .f32 := (fn_eliminate (F := F) main_c_87 main_v180_0).1
  let main_v182_1 : IVec S_ 1 := (fn_eliminate (F := F) main_c_87 main_v180_0).2
  let main_v183 : IVec S_ 1 := andi main_v181 main_v182_1
  fn_part15 (F := F) main_v182_0 main_v183

def fn_part13 {F : FTy → Type} [FloatOps F] (main_v158_0 : FVec F S160x160 .f32) (main_v159 : IVec S_ 1) : IVec S_ 1 :=
  let main_c_76 : IVec S_ 32 := constantI S_ 32 74#32
  let main_v160_0 : FVec F S160x160 .f32 := (fn_eliminate (F := F) main_c_76 main_v158_0).1
  let main_v160_1 : IVec S_ 1 := (fn_eliminate (F := F) main_c_76 main_v158_0).2
  let main_v161 : IVec S_ 1 := andi main_v159 main_v160_1
  let main_c_77 : IVec S_ 32 := constantI S_ 32 75#32
  let main_v162_0 : FVec F S160x160 .f32 := (fn_eliminate (F := F) main_c_77 main_v160_0).1
  let main_v162_1 : IVec S_ 1 := (fn_eliminate (F := F) main_c_77 main_v160_0).2
  let main_v163 : IVec S_ 1 := andi main_v161 main_v162_1
  let main_c_78 : IVec S_ 32 := constantI S_ 32 76#32
  let main_v164_0 : FVec F S160x160 .f32 := (fn_eliminate (F := F) main_c_78 main_v162_0).1
  let main_v164_1 : IVec S_ 1 := (fn_eliminate (F := F) main_c_78 main_v162_0).2
  let main_v165 : IVec S_ 1 := andi main_v163 main_v164_1
  let main_c_79 : IVec S_ 32 := constantI S_ 32 77#32
  let main_v166_0 : FVec F S160x160 .f32 := (fn_eliminate (F := F) main_c_79 main_v164_0).1
  let main_v166_1 : IVec S_ 1 := (fn_eliminate (F := F) main_c_79 main_v164_0).2
  let main_v167 : IVec S_ 1 := andi main_v165 main_v166_1
  let main_c_80 : IVec S_ 32 := constantI S_ 32 78#32
  let main_v168_0 : FVec F S160x160 .f32 := (fn_eliminate (F := F) main_c_80 main_v166_0).1
  let main_v168_1 : IVec S_ 1 := (fn_eliminate (F := F) main_c_80 main_v166_0).2
  let main_v169 : IVec S_ 1 := andi main_v167 main_v168_1
  let main_c_81 : IVec S_ 32 := constantI S_ 32 79#32
  let main_v170_0 : FVec F S160x160 .f32 := (fn_eliminate (F := F) main_c_81 main_v168_0).1
  let main_v170_1 : IVec S_ 1 := (fn_eliminate (F := F) main_c_81 main_v168_0).2
  let main_v171 : IVec S_ 1 := andi main_v169 main_v170_1
  fn_part14 (F := F) main_v170_0 main_v171

def fn_part12 {F : FTy → Type} [FloatOps F] (main_v146_0 : FVec F S160x160 .f32) (main_v147 : IVec S_ 1) : IVec S_ 1 :=
  let main_c_70 : IVec S_ 32 := constantI S_ 32 68#32
  let main_v148_0 : FVec F S160x160 .f32 := (fn_eliminate (F := F) main_c_70 main_v146_0).1
  let main_v148_1 : IVec S_ 1 := (fn_eliminate (F := F) main_c_70 main_v146_0).2
  let main_v149 : IVec S_ 1 := andi main_v147 main_v148_1
  let main_c_71 : IVec S_ 32 := constantI S_ 32 69#32
  let main_v150_0 : FVec F S160x160 .f32 := (fn_eliminate (F := F) main_c_71 main_v148_0).1
  let main_v150_1 : IVec S_ 1 := (fn_eliminate (F := F) main_c_71 main_v148_0).2
  let main_v151 : IVec S_ 1 := andi main_v149 main_v150_1
  let main_c_72 : IVec S_ 32 := constantI S_ 32 70#32
  let main_v152_0 : FVec F S160x160 .f32 := (fn_eliminate (F := F) main_c_72 main_v150_0).1
  let main_v152_1 : IVec S_ 1 := (fn_eliminate (F := F) main_c_72 main_v150_0).2
  let main_v153 : IVec S_ 1 := andi main_v151 main_v152_1
  let main_c_73 : IVec S_ 32 := constantI S_ 32 71#32
  let main_v154_0 : FVec F S160x160 .f32 := (fn_eliminate (F := F) main_c_73 main_v152_0).1
  let main_v154_1 : IVec S_ 1 := (fn_eliminate (F := F) main_c_73 main_v152_0).2
  let main_v155 : IVec S_ 1 := andi main_v153 main_v154_1
  let main_c_74 : IVec S_ 32 := constantI S_ 32 72#32
  let main_v156_0 : FVec F S160x160 .f32 := (fn_eliminate (F := F) main_c_74 main_v154_0).1
  let main_v156_1 : IVec S_ 1 := (fn_eliminate (F := F) main_c_74 main_v154_0).2
  let main_v157 : IVec S_ 1 := andi main_v155 main_v156_1
  let main_c_75 : IVec S_ 32 := constantI S_ 32 73#32
  let main_v158_0 : FVec F S160x160 .f32 := (fn_eliminate (F := F) main_c_75 main_v156_0).1
  let main_v158_1 : IVec S_ 1 := (fn_eliminate (F := F) main_c_75 main_v156_0).2
  let main_v159 : IVec S_ 1 := andi main_v157 main_v158_1
  fn_part13 (F := F) main_v158_0 main_v159

def fn_part11 {F : FTy → Type} [FloatOps F] (main_v134_0 : FVec F S160x160 .f32) (main_v135 : IVec S_ 1) : IVec S_ 1 :=
  let main_c_64 : IVec S_ 32 := constantI S_ 32 62#32
  let main_v136_0 : FVec F S160x160 .f32 := (fn_eliminate (F := F) main_c_64 main_v134_0).1
  let main_v136_1 : IVec S_ 1 := (fn_eliminate (F := F) main_c_64 main_v134_0).2
  let main_v137 : IVec S_ 1 := andi main_v135 main_v136_1
  let main_c_65 : IVec S_ 32 := constantI S_ 32 63#32
  let main_v138_0 : FVec F S160x160 .f32 := (fn_eliminate (F := F) main_c_65 main_v136_0).1
  let main_v138_1 : IVec S_ 1 := (fn_eliminate (F := F) main_c_65 main_v136_0).2
  let main_v139 : IVec S_ 1 := andi main_v137 main_v138_1
  let main_c_66 : IVec S_ 32 := constantI S_ 32 64#32
  let main_v140_0 : FVec F S160x160 .f32 := (fn_eliminate (F := F) main_c_66 main_v138_0).1
  let main_v140_1 : IVec S_ 1 := (fn_eliminate (F := F) main_c_66 main_v138_0).2
  let main_v141 : IVec S_ 1 := andi main_v139 main_v140_1
  let main_c_67 : IVec S_ 32 := constantI S_ 32 65#32
  let main_v142_0 : FVec F S160x160 .f32 := (fn_eliminate (F := F) main_c_67 main_v140_0).1
  let main_v142_1 : IVec S_ 1 := (fn_eliminate (F := F) main_c_67 main_v140_0).2
  let main_v143 : IVec S_ 1 := andi main_v141 main_v142_1
  let main_c_68 : IVec S_ 32 := constantI S_ 32 66#32
  let main_v144_0 : FVec F S160x160 .f32 := (fn_eliminate (F := F) main_c_68 main_v142_0).1
  let main_v144_1 : IVec S_ 1 := (fn_eliminate (F := F) main_c_68 main_v142_0).2
  let main_v145 : IVec S_ 1 := andi main_v143 main_v144_1
  let main_c_69 : IVec S_ 32 := constantI S_ 32 67#32
  let main_v146_0 : FVec F S160x160 .f32 := (fn_eliminate (F := F) main_c_69 main_v144_0).1
  let main_v146_1 : IVec S_ 1 := (fn_eliminate (F := F) main_c_69 main_v144_0).2
  let main_v147 : IVec S_ 1 := andi main_v145 main_v146_1
  fn_part12 (F := F) main_v146_0 main_v147

def fn_part10 {F : FTy → Type} [FloatOps F] (main_v122_0 : FVec F S160x160 .f32) (main_v123 : IVec S_ 1) : IVec S_ 1 :=
  let main_c_58 : IVec S_ 32 := constantI S_ 32 56#32
  let main_v124_0 : FVec F S160x160 .f32 := (fn_eliminate (F := F) main_c_58 main_v122_0).1
  let main_v124_1 : IVec S_ 1 := (fn_eliminate (F := F) main_c_58 main_v122_0).2
  let main_v125 : IVec S_ 1 := andi main_v123 main_v124_1
  let main_c_59 : IVec S_ 32 := constantI S_ 32 57#32
  let main_v126_0 : FVec F S160x160 .f32 := (fn_eliminate (F := F) main_c_59 main_v124_0).1
  let main_v126_1 : IVec S_ 1 := (fn_eliminate (F := F) main_c_59 main_v124_0).2
  let main_v127 : IVec S_ 1 := andi main_v125 main_v126_1
  let main_c_60 : IVec S_ 32 := constantI S_ 32 58#32
  let main_v128_0 : FVec F S160x160 .f32 := (fn_eliminate (F := F) main_c_60 main_v126_0).1
  let main_v128_1 : IVec S_ 1 := (fn_eliminate (F := F) main_c_60 main_v126_0).2
  let main_v129 : IVec S_ 1 := andi main_v127 main_v128_1
  let main_c_61 : IVec S_ 32 := constantI S_ 32 59#32
  let main_v130_0 : FVec F S160x160 .f32 := (fn_eliminate (F := F) main_c_61 main_v128_0).1
  let main_v130_1 : IVec S_ 1 := (fn_eliminate (F := F) main_c_61 main_v128_0).2
  let main_v131 : IVec S_ 1 := andi main_v129 main_v130_1
  let main_c_62 : IVec S_ 32 := constantI S_ 32 60#32
  let main_v132_0 : FVec F S160x160 .f32 := (fn_eliminate (F := F) main_c_62 main_v130_0).1
  let main_v132_1 : IVec S_ 1 := (fn_eliminate (F := F) main_c_62 main_v130_0).2
  let main_v133 : IVec S_ 1 := andi main_v131 main_v132_1
  let main_c_63 : IVec S_ 32 := constantI S_ 32 61#32
  let main_v134_0 : FVec F S160x160 .f32 := (fn_eliminate (F := F) main_c_63 main_v132_0).1
  let main_v134_1 : IVec S_ 1 := (fn_eliminate (F := F) main_c_63 main_v132_0).2
  let main_v135 : IVec S_ 1 := andi main_v133 main_v134_1
  fn_part11 (F := F) main_v134_0 main_v135

def fn_part9 {F : FTy → Type} [FloatOps F] (main_v110_0 : FVec F S160x160 .f32) (main_v111 : IVec S_ 1) : IVec S_ 1 :=
  let main_c_52 : IVec S_ 32 := constantI S_ 32 50#32
  let main_v112_0 : FVec F S160x160 .f32 := (fn_eliminate (F := F) main_c_52 main_v110_0).1
  let main_v112_1 : IVec S_ 1 := (fn_eliminate (F := F) main_c_52 main_v110_0).2
  let main_v113 : IVec S_ 1 := andi main_v111 main_v112_1
  let main_c_53 : IVec S_ 32 := constantI S_ 32 51#32
  let main_v114_0 : FVec F S160x160 .f32 := (fn_eliminate (F := F) main_c_53 main_v112_0).1
  let main_v114_1 : IVec S_ 1 := (fn_eliminate (F := F) main_c_53 main_v112_0).2
  let main_v115 : IVec S_ 1 := andi main_v113 main_v114_1
  let main_c_54 : IVec S_ 32 := constantI S_ 32 52#32
  let main_v116_0 : FVec F S160x160 .f32 := (fn_eliminate (F := F) main_c_54 main_v114_0).1
  let main_v116_1 : IVec S_ 1 := (fn_eliminate (F := F) main_c_54 main_v114_0).2
  let main_v117 : IVec S_ 1 := andi main_v115 main_v116_1
  let main_c_55 : IVec S_ 32 := constantI S_ 32 53#32
  let main_v118_0 : FVec F S160x160 .f32 := (fn_eliminate (F := F) main_c_55 main_v116_0).1
  let main_v118_1 : IVec S_ 1 := (fn_eliminate (F := F) main_c_55 main_v116_0).2
  let main_v119 : IVec S_ 1 := andi main_v117 main_v118_1
  let main_c_56 : IVec S_ 32 := constantI S_ 32 54#32
  let main_v120_0 : FVec F S160x160 .f32 := (fn_eliminate (F := F) main_c_56 main_v118_0).1
  let main_v120_1 : IVec S_ 1 := (fn_eliminate (F := F) main_c_56 main_v118_0).2
  let main_v121 : IVec S_ 1 := andi main_v119 main_v120_1
  let main_c_57 : IVec S_ 32 := constantI S_ 32 55#32
  let main_v122_0 : FVec F S160x160 .f32 := (fn_eliminate (F := F) main_c_57 main_v120_0).1
  let main_v122_1 : IVec S_ 1 := (fn_eliminate (F := F) main_c_57 main_v120_0).2
  let main_v123 : IVec S_ 1 := andi main_v121 main_v122_1
  fn_part10 (F := F) main_v122_0 main_v123

def fn_part8 {F : FTy → Type} [FloatOps F] (main_v98_0 : FVec F S160x160 .f32) (main_v99 : IVec S_ 1) : IVec S_ 1 :=
  let main_c_46 : IVec S_ 32 := constantI S_ 32 44#32
  let main_v100_0 : FVec F S160x160 .f32 := (fn_eliminate (F := F) main_c_46 main_v98_0).1
  let main_v100_1 : IVec S_ 1 := (fn_eliminate (F := F) main_c_46 main_v98_0).2
  let main_v101 : IVec S_ 1 := andi main_v99 main_v100_1
  let main_c_47 : IVec S_ 32 := constantI S_ 32 45#32
  let main_v102_0 : FVec F S160x160 .f32 := (fn_eliminate (F := F) main_c_47 main_v100_0).1
  let main_v102_1 : IVec S_ 1 := (fn_eliminate (F := F) main_c_47 main_v100_0).2
  let main_v103 : IVec S_ 1 := andi main_v101 main_v102_1
  let main_c_48 : IVec S_ 32 := constantI S_ 32 46#32
  let main_v104_0 : FVec F S160x160 .f32 := (fn_eliminate (F := F) main_c_48 main_v102_0).1
  let main_v104_1 : IVec S_ 1 := (fn_eliminate (F := F) main_c_48 main_v102_0).2
  let main_v105 : IVec S_ 1 := andi main_v103 main_v104_1
  let main_c_49 : IVec S_ 32 := constantI S_ 32 47#32
  let main_v106_0 : FVec F S160x160 .f32 := (fn_eliminate (F := F) main_c_49 main_v104_0).1
  let main_v106_1 : IVec S_ 1 := (fn_eliminate (F := F) main_c_49 main_v104_0).2
  let main_v107 : IVec S_ 1 := andi main_v105 main_v106_1
  let main_c_50 : IVec S_ 32 := constantI S_ 32 48#32
  let main_v108_0 : FVec F S160x160 .f32 := (fn_eliminate (F := F) main_c_50 main_v106_0).1
  let main_v108_1 : IVec S_ 1 := (fn_eliminate (F := F) main_c_50 main_v106_0).2
  let main_v109 : IVec S_ 1 := andi main_v107 main_v108_1
  let main_c_51 : IVec S_ 32 := constantI S_ 32 49#32
  let main_v110_0 : FVec F S160x160 .f32 := (fn_eliminate (F := F) main_c_51 main_v108_0).1
  let main_v110_1 : IVec S_ 1 := (fn_eliminate (F := F) main_c_51 main_v108_0).2
  let main_v111 : IVec S_ 1 := andi main_v109 main_v110_1
  fn_part9 (F := F) main_v110_0 main_v111

def fn_part7 {F : FTy → Type} [FloatOps F] (main_v86_0 : FVec F S160x160 .f32) (main_v87 : IVec S_ 1) : IVec S_ 1 :=
  let main_c_40 : IVec S_ 32 := constantI S_ 32 38#32
  let main_v88_0 : FVec F S160x160 .f32 := (fn_eliminate (F := F) main_c_40 main_v86_0).1
  let main_v88_1 : IVec S_ 1 := (fn_eliminate (F := F) main_c_40 main_v86_0).2
  let main_v89 : IVec S_ 1 := andi main_v87 main_v88_1
  let main_c_41 : IVec S_ 32 := constantI S_ 32 39#32
  let main_v90_0 : FVec F S160x160 .f32 := (fn_eliminate (F := F) main_c_41 main_v88_0).1
  let main_v90_1 : IVec S_ 1 := (fn_eliminate (F := F) main_c_41 main_v88_0).2
  let main_v91 : IVec S_ 1 := andi main_v89 main_v90_1
  let main_c_42 : IVec S_ 32 := constantI S_ 32 40#32
  let main_v92_0 : FVec F S160x160 .f32 := (fn_eliminate (F := F) main_c_42 main_v90_0).1
  let main_v92_1 : IVec S_ 1 := (fn_eliminate (F := F) main_c_42 main_v90_0).2
  let main_v93 : IVec S_ 1 := andi main_v91 main_v92_1
  let main_c_43 : IVec S_ 32 := constantI S_ 32 41#32
  let main_v94_0 : FVec F S160x160 .f32 := (fn_eliminate (F := F) main_c_43 main_v92_0).1
  let main_v94_1 : IVec S_ 1 := (fn_eliminate (F := F) main_c_43 main_v92_0).2
  let main_v95 : IVec S_ 1 := andi main_v93 main_v94_1
  let main_c_44 : IVec S_ 32 := constantI S_ 32 42#32
  let main_v96_0 : FVec F S160x160 .f32 := (fn_eliminate (F := F) main_c_44 main_v94_0).1
  let main_v96_1 : IVec S_ 1 := (fn_eliminate (F := F) main_c_44 main_v94_0).2
  let main_v97 : IVec S_ 1 := andi main_v95 main_v96_1
  let main_c_45 : IVec S_ 32 := constantI S_ 32 43#32
  let main_v98_0 : FVec F S160x160 .f32 := (fn_eliminate (F := F) main_c_45 main_v96_0).1
  let main_v98_1 : IVec S_ 1 := (fn_eliminate (F := F) main_c_45 main_v96_0).2
  let main_v99 : IVec S_ 1 := andi main_v97 main_v98_1
  fn_part8 (F := F) main_v98_0 main_v99

def fn_part6 {F : FTy → Type} [FloatOps F] (main_v74_0 : FVec F S160x160 .f32) (main_v75 : IVec S_ 1) : IVec S_ 1 :=
  let main_c_34 : IVec S_ 32 := constantI S_ 32 32#32
  let main_v76_0 : FVec F S160x160 .f32 := (fn_eliminate (F := F) main_c_34 main_v74_0).1
  let main_v76_1 : IVec S_ 1 := (fn_eliminate (F := F) main_c_34 main_v74_0).2
  let main_v77 : IVec S_ 1 := andi main_v75 main_v76_1
  let main_c_35 : IVec S_ 32 := constantI S_ 32 33#32
  let main_v78_0 : FVec F S160x160 .f32 := (fn_eliminate (F := F) main_c_35 main_v76_0).1
  let main_v78_1 : IVec S_ 1 := (fn_eliminate (F := F) main_c_35 main_v76_0).2
  let main_v79 : IVec S_ 1 := andi main_v77 main_v78_1
  let main_c_36 : IVec S_ 32 := constantI S_ 32 34#32
  let main_v80_0 : FVec F S160x160 .f32 := (fn_eliminate (F := F) main_c_36 main_v78_0).1
  let main_v80_1 : IVec S_ 1 := (fn_eliminate (F := F) main_c_36 main_v78_0).2
  let main_v81 : IVec S_ 1 := andi main_v79 main_v80_1
  let main_c_37 : IVec S_ 32 := constantI S_ 32 35#32
  let main_v82_0 : FVec F S160x160 .f32 := (fn_eliminate (F := F) main_c_37 main_v80_0).1
  let main_v82_1 : IVec S_ 1 := (fn_eliminate (F := F) main_c_37 main_v80_0).2
  let main_v83 : IVec S_ 1 := andi main_v81 main_v82_1
  let main_c_38 : IVec S_ 32 := constantI S_ 32 36#32
  let main_v84_0 : FVec F S160x160 .f32 := (fn_eliminate (F := F) main_c_38 main_v82_0).1
  let main_v84_1 : IVec S_ 1 := (fn_eliminate (F := F) main_c_38 main_v82_0).2
  let main_v85 : IVec S_ 1 := andi main_v83 main_v84_1
  let main_c_39 : IVec S_ 32 := constantI S_ 32 37#32
  let main_v86_0 : FVec F S160x160 .f32 := (fn_eliminate (F := F) main_c_39 main_v84_0).1
  let main_v86_1 : IVec S_ 1 := (fn_eliminate (F := F) main_c_39 main_v84_0).2
  let main_v87 : IVec S_ 1 := andi main_v85 main_v86_1
  fn_part7 (F := F) main_v86_0 main_v87

def fn_part5 {F : FTy → Type} [FloatOps F] (main_v62_0 : FVec F S160x160 .f32) (main_v63 : IVec S_ 1) : IVec S_ 1 :=
  let main_c_28 : IVec S_ 32 := constantI S_ 32 26#32
  let main_v64_0 : FVec F S160x160 .f32 := (fn_eliminate (F := F) main_c_28 main_v62_0).1
  let main_v64_1 : IVec S_ 1 := (fn_eliminate (F := F) main_c_28 main_v62_0).2
  let main_v65 : IVec S_ 1 := andi main_v63 main_v64_1
  let main_c_29 : IVec S_ 32 := constantI S_ 32 27#32
  let main_v66_0 : FVec F S160x160 .f32 := (fn_eliminate (F := F) main_c_29 main_v64_0).1
  let main_v66_1 : IVec S_ 1 := (fn_eliminate (F := F) main_c_29 main_v64_0).2
  let main_v67 : IVec S_ 1 := andi main_v65 main_v66_1
  let main_c_30 : IVec S_ 32 := constantI S_ 32 28#32
  let main_v68_0 : FVec F S160x160 .f32 := (fn_eliminate (F := F) main_c_30 main_v66_0).1
  let main_v68_1 : IVec S_ 1 := (fn_eliminate (F := F) main_c_30 main_v66_0).2
  let main_v69 : IVec S_ 1 := andi main_v67 main_v68_1
  let main_c_31 : IVec S_ 32 := constantI S_ 32 29#32
  let main_v70_0 : FVec F S160x160 .f32 := (fn_eliminate (F := F) main_c_31 main_v68_0).1
  let main_v70_1 : IVec S_ 1 := (fn_eliminate (F := F) main_c_31 main_v68_0).2
  let main_v71 : IVec S_ 1 := andi main_v69 main_v70_1
  let main_c_32 : IVec S_ 32 := constantI S_ 32 30#32
  let main_v72_0 : FVec F S160x160 .f32 := (fn_eliminate (F := F) main_c_32 main_v70_0).1
  let main_v72_1 : IVec S_ 1 := (fn_eliminate (F := F) main_c_32 main_v70_0).2
  let main_v73 : IVec S_ 1 := andi main_v71 main_v72_1
  let main_c_33 : IVec S_ 32 := constantI S_ 32 31#32
  let main_v74_0 : FVec F S160x160 .f32 := (fn_eliminate (F := F) main_c_33 main_v72_0).1
  let main_v74_1 : IVec S_ 1 := (fn_eliminate (F := F) main_c_33 main_v72_0).2
  let main_v75 : IVec S_ 1 := andi main_v73 main_v74_1
  fn_part6 (F := F) main_v74_0 main_v75

def fn_part4 {F : FTy → Type} [FloatOps F] (main_v50_0 : FVec F S160x160 .f32) (main_v51 : IVec S_ 1) : IVec S_ 1 :=
  let main_c_22 : IVec S_ 32 := constantI S_ 32 20#32
  let main_v52_0 : FVec F S160x160 .f32 := (fn_eliminate (F := F) main_c_22 main_v50_0).1
  let main_v52_1 : IVec S_ 1 := (fn_eliminate (F := F) main_c_22 main_v50_0).2
  let main_v53 : IVec S_ 1 := andi main_v51 main_v52_1
  let main_c_23 : IVec S_ 32 := constantI S_ 32 21#32
  let main_v54_0 : FVec F S160x160 .f32 := (fn_eliminate (F := F) main_c_23 main_v52_0).1
  let main_v54_1 : IVec S_ 1 := (fn_eliminate (F := F) main_c_23 main_v52_0).2
  let main_v55 : IVec S_ 1 := andi main_v53 main_v54_1
  let main_c_24 : IVec S_ 32 := constantI S_ 32 22#32
  let main_v56_0 : FVec F S160x160 .f32 := (fn_eliminate (F := F) main_c_24 main_v54_0).1
  let main_v56_1 : IVec S_ 1 := (fn_eliminate (F := F) main_c_24 main_v54_0).2
  let main_v57 : IVec S_ 1 := andi main_v55 main_v56_1
  let main_c_25 : IVec S_ 32 := constantI S_ 32 23#32
  let main_v58_0 : FVec F S160x160 .f32 := (fn_eliminate (F := F) main_c_25 main_v56_0).1
  let main_v58_1 : IVec S_ 1 := (fn_eliminate (F := F) main_c_25 main_v56_0).2
  let main_v59 : IVec S_ 1 := andi main_v57 main_v58_1
  let main_c_26 : IVec S_ 32 := constantI S_ 32 24#32
  let main_v60_0 : FVec F S160x160 .f32 := (fn_eliminate (F := F) main_c_26 main_v58_0).1
  let main_v60_1 : IVec S_ 1 := (fn_eliminate (F := F) main_c_26 main_v58_0).2
  let main_v61 : IVec S_ 1 := andi main_v59 main_v60_1
  let main_c_27 : IVec S_ 32 := constantI S_ 32 25#32
  let main_v62_0 : FVec F S160x160 .f32 := (fn_eliminate (F := F) main_c_27 main_v60_0).1
  let main_v62_1 : IVec S_ 1 := (fn_eliminate (F := F) main_c_27 main_v60_0).2
  let main_v63 : IVec S_ 1 := andi main_v61 main_v62_1
  fn_part5 (F := F) main_v62_0 main_v63

def fn_part3 {F : FTy → Type} [FloatOps F] (main_v38_0 : FVec F S160x160 .f32) (main_v39 : IVec S_ 1) : IVec S_ 1 :=
  let main_c_16 : IVec S_ 32 := constantI S_ 32 14#32
  let main_v40_0 : FVec F S160x160 .f32 := (fn_eliminate (F := F) main_c_16 main_v38_0).1
  let main_v40_1 : IVec S_ 1 := (fn_eliminate (F := F) main_c_16 main_v38_0).2
  let main_v41 : IVec S_ 1 := andi main_v39 main_v40_1
  let main_c_17 : IVec S_ 32 := constantI S_ 32 15#32
  let main_v42_0 : FVec F S160x160 .f32 := (fn_eliminate (F := F) main_c_17 main_v40_0).1
  let main_v42_1 : IVec S_ 1 := (fn_eliminate (F := F) main_c_17 main_v40_0).2
  let main_v43 : IVec S_ 1 := andi main_v41 main_v42_1
  let main_c_18 : IVec S_ 32 := constantI S_ 32 16#32
  let main_v44_0 : FVec F S160x160 .f32 := (fn_eliminate (F := F) main_c_18 main_v42_0).1
  let main_v44_1 : IVec S_ 1 := (fn_eliminate (F := F) main_c_18 main_v42_0).2
  let main_v45 : IVec S_ 1 := andi main_v43 main_v44_1
  let main_c_19 : IVec S_ 32 := constantI S_ 32 17#32
  let main_v46_0 : FVec F S160x160 .f32 := (fn_eliminate (F := F) main_c_19 main_v44_0).1
  let main_v46_1 : IVec S_ 1 := (fn_eliminate (F := F) main_c_19 main_v44_0).2
  let main_v47 : IVec S_ 1 := andi main_v45 main_v46_1
  let main_c_20 : IVec S_ 32 := constantI S_ 32 18#32
  let main_v48_0 : FVec F S160x160 .f32 := (fn_eliminate (F := F) main_c_20 main_v46_0).1
  let main_v48_1 : IVec S_ 1 := (fn_eliminate (F := F) main_c_20 main_v46_0).2
  let main_v49 : IVec S_ 1 := andi main_v47 main_v48_1
  let main_c_21 : IVec S_ 32 := constantI S_ 32 19#32
  let main_v50_0 : FVec F S160x160 .f32 := (fn_eliminate (F := F) main_c_21 main_v48_0).1
  let main_v50_1 : IVec S_ 1 := (fn_eliminate (F := F) main_c_21 main_v48_0).2
  let main_v51 : IVec S_ 1 := andi main_v49 main_v50_1
  fn_part4 (F := F) main_v50_0 main_v51

def fn_part2 {F : FTy → Type} [FloatOps F] (main_v26_0 : FVec F S160x160 .f32) (main_v27 : IVec S_ 1) : IVec S_ 1 :=
  let main_c_10 : IVec S_ 32 := constantI S_ 32 8#32
  let main_v28_0 : FVec F S160x160 .f32 := (fn_eliminate (F := F) main_c_10 main_v26_0).1
  let main_v28_1 : IVec S_ 1 := (fn_eliminate (F := F) main_c_10 main_v26_0).2
  let main_v29 : IVec S_ 1 := andi main_v27 main_v28_1
  let main_c_11 : IVec S_ 32 := constantI S_ 32 9#32
  let main_v30_0 : FVec F S160x160 .f32 := (fn_eliminate (F := F) main_c_11 main_v28_0).1
  let main_v30_1 : IVec S_ 1 := (fn_eliminate (F := F) main_c_11 main_v28_0).2
  let main_v31 : IVec S_ 1 := andi main_v29 main_v30_1
  let main_c_12 : IVec S_ 32 := constantI S_ 32 10#32
  let main_v32_0 : FVec F S160x160 .f32 := (fn_eliminate (F := F) main_c_12 main_v30_0).1
  let main_v32_1 : IVec S_ 1 := (fn_eliminate (F := F) main_c_12 main_v30_0).2
  let main_v33 : IVec S_ 1 := andi main_v31 main_v32_1
  let main_c_13 : IVec S_ 32 := constantI S_ 32 11#32
  let main_v34_0 : FVec F S160x160 .f32 := (fn_eliminate (F := F) main_c_13 main_v32_0).1
  let main_v34_1 : IVec S_ 1 := (fn_eliminate (F := F) main_c_13 main_v32_0).2
  let main_v35 : IVec S_ 1 := andi main_v33 main_v34_1
  let main_c_14 : IVec S_ 32 := constantI S_ 32 12#32
  let main_v36_0 : FVec F S160x160 .f32 := (fn_eliminate (F := F) main_c_14 main_v34_0).1
  let main_v36_1 : IVec S_ 1 := (fn_eliminate (F := F) main_c_14 main_v34_0).2
  let main_v37 : IVec S_ 1 := andi main_v35 main_v36_1
  let main_c_15 : IVec S_ 32 := constantI S_ 32 13#32
  let main_v38_0 : FVec F S160x160 .f32 := (fn_eliminate (F := F) main_c_15 main_v36_0).1
  let main_v38_1 : IVec S_ 1 := (fn_eliminate (F := F) main_c_15 main_v36_0).2
  let main_v39 : IVec S_ 1 := andi main_v37 main_v38_1
  fn_part3 (F := F) main_v38_0 main_v39

def fn_part1 {F : FTy → Type} [FloatOps F] (main_v14_0 : FVec F S160x160 .f32) (main_v15 : IVec S_ 1) : IVec S_ 1 :=
  let main_c_4 : IVec S_ 32 := constantI S_ 32 2#32
  let main_v16_0 : FVec F S160x160 .f32 := (fn_eliminate (F := F) main_c_4 main_v14_0).1
  let main_v16_1 : IVec S_ 1 := (fn_eliminate (F := F) main_c_4 main_v14_0).2
  let main_v17 : IVec S_ 1 := andi main_v15 main_v16_1
  let main_c_5 : IVec S_ 32 := constantI S_ 32 3#32
  let main_v18_0 : FVec F S160x160 .f32 := (fn_eliminate (F := F) main_c_5 main_v16_0).1
  let main_v18_1 : IVec S_ 1 := (fn_eliminate (F := F) main_c_5 main_v16_0).2
  let main_v19 : IVec S_ 1 := andi main_v17 main_v18_1
  let main_c_6 : IVec S_ 32 := constantI S_ 32 4#32
  let main_v20_0 : FVec F S160x160 .f32 := (fn_eliminate (F := F) main_c_6 main_v18_0).1
  let main_v20_1 : IVec S_ 1 := (fn_eliminate (F := F) main_c_6 main_v18_0).2
  let main_v21 : IVec S_ 1 := andi main_v19 main_v20_1
  let main_c_7 : IVec S_ 32 := constantI S_ 32 5#32
  let main_v22_0 : FVec F S160x160 .f32 := (fn_eliminate (F := F) main_c_7 main_v20_0).1
  let main_v22_1 : IVec S_ 1 := (fn_eliminate (F := F) main_c_7 main_v20_0).2
  let main_v23 : IVec S_ 1 := andi main_v21 main_v22_1
  let main_c_8 : IVec S_ 32 := constantI S_ 32 6#32
  let main_v24_0 : FVec F S160x160 .f32 := (fn_eliminate (F := F) main_c_8 main_v22_0).1
  let main_v24_1 : IVec S_ 1 := (fn_eliminate (F := F) main_c_8 main_v22_0).2
  let main_v25 : IVec S_ 1 := andi main_v23 main_v24_1
  let main_c_9 : IVec S_ 32 := constantI S_ 32 7#32
  let main_v26_0 : FVec F S160x160 .f32 := (fn_eliminate (F := F) main_c_9 main_v24_0).1
  let main_v26_1 : IVec S_ 1 := (fn_eliminate (F := F) main_c_9 main_v24_0).2
  let main_v27 : IVec S_ 1 := andi main_v25 main_v26_1
  fn_part2 (F := F) main_v26_0 main_v27

def fn {F : FTy → Type} [FloatOps F] (main_arg0 : FVec F S160x160 .f32) (main_arg1 : FVec F S160x160 .f32) : IVec S_ 1 :=
  let main_v0 : FVec F S160x160 .f32 := addf main_arg0 main_arg1
  let main_v1 : FVec F S160x160 .f32 := (transpose S160x160 [1, 0] · transposes_S160x160_S160x160_1_0) main_arg1
  let main_v2 : FVec F S160x160 .f32 := addf main_v0 main_v1
  let main_v3 : FVec F S160x160 .f32 := Host.absf main_arg0
  let main_cst : FVec F S_ .f32 := constant S_ .f32 0x7F800000#32
  let main_v4 : FVec F S160x160 .f32 := broadcastInDim S160x160 ![] bcast_S_S160x160 main_cst
  let main_v5 : IVec S160x160 1 := cmpf .olt main_v3 main_v4
  let main_c : IVec S_ 1 := constantI S_ 1 1#1
  let main_v6 : IVec S_ 1 := (fun x v => Host.reduce IntOp.andi x v reducesTo_S160x160_S_d0_1 h_S_) main_v5 main_c
  let main_v7 : FVec F S160x160 .f32 := Host.absf main_arg1
  let main_cst_0 : FVec F S_ .f32 := constant S_ .f32 0x7F800000#32
  let main_v8 : FVec F S160x160 .f32 := broadcastInDim S160x160 ![] bcast_S_S160x160 main_cst_0
  let main_v9 : IVec S160x160 1 := cmpf .olt main_v7 main_v8
  let main_c_1 : IVec S_ 1 := constantI S_ 1 1#1
  let main_v10 : IVec S_ 1 := (fun x v => Host.reduce IntOp.andi x v reducesTo_S160x160_S_d0_1 h_S_) main_v9 main_c_1
  let main_v11 : IVec S_ 1 := andi main_v6 main_v10
  let main_c_2 : IVec S_ 32 := constantI S_ 32 0#32
  let main_v12_0 : FVec F S160x160 .f32 := (fn_eliminate (F := F) main_c_2 main_v2).1
  let main_v12_1 : IVec S_ 1 := (fn_eliminate (F := F) main_c_2 main_v2).2
  let main_v13 : IVec S_ 1 := andi main_v11 main_v12_1
  let main_c_3 : IVec S_ 32 := constantI S_ 32 1#32
  let main_v14_0 : FVec F S160x160 .f32 := (fn_eliminate (F := F) main_c_3 main_v12_0).1
  let main_v14_1 : IVec S_ 1 := (fn_eliminate (F := F) main_c_3 main_v12_0).2
  let main_v15 : IVec S_ 1 := andi main_v13 main_v14_1
  fn_part1 (F := F) main_v14_0 main_v15
-- ==== Kernel.lean ====
abbrev S1536x245760 : Shape := ⟨2, ![1536, 245760]⟩
abbrev S48x245760 : Shape := ⟨2, ![48, 245760]⟩
abbrev S160x245760 : Shape := ⟨2, ![160, 245760]⟩
abbrev S160x160 : Shape := ⟨2, ![160, 160]⟩
abbrev S160x1536 : Shape := ⟨2, ![160, 1536]⟩
abbrev S1536x2048 : Shape := ⟨2, ![1536, 2048]⟩
abbrev S48x2048 : Shape := ⟨2, ![48, 2048]⟩
abbrev S160x2048 : Shape := ⟨2, ![160, 2048]⟩
abbrev S160x960 : Shape := ⟨2, ![160, 960]⟩
abbrev S160x512 : Shape := ⟨2, ![160, 512]⟩
abbrev S960x512 : Shape := ⟨2, ![960, 512]⟩
abbrev S256x512 : Shape := ⟨2, ![256, 512]⟩
abbrev S8x512 : Shape := ⟨2, ![8, 512]⟩
abbrev S1x512 : Shape := ⟨2, ![1, 512]⟩
abbrev S32x512 : Shape := ⟨2, ![32, 512]⟩
abbrev S160x256 : Shape := ⟨2, ![160, 256]⟩

abbrev nBuf : Space → Nat
  | .hbm => 6
  | .vmem => 10
  | .smem => 0
  | _ => 0

abbrev bufTy : (tb : Table) → Fin (tcTables nBuf tb) → BufTy
  | .hbm, ⟨0, _⟩ => ⟨S1536x245760, .i8⟩
  | .hbm, ⟨1, _⟩ => ⟨S48x245760, .f32⟩
  | .hbm, ⟨2, _⟩ => ⟨S160x245760, .f32⟩
  | .hbm, ⟨3, _⟩ => ⟨S160x160, .f32⟩
  | .hbm, ⟨4, _⟩ => ⟨S160x245760, .bf16⟩
  | .hbm, ⟨5, _⟩ => ⟨S160x1536, .f32⟩
  | .local _ .vmem, ⟨0, _⟩ => ⟨S1536x2048, .i8⟩
  | .local _ .vmem, ⟨1, _⟩ => ⟨S1536x2048, .i8⟩
  | .local _ .vmem, ⟨2, _⟩ => ⟨S48x2048, .f32⟩
  | .local _ .vmem, ⟨3, _⟩ => ⟨S48x2048, .f32⟩
  | .local _ .vmem, ⟨4, _⟩ => ⟨S160x2048, .f32⟩
  | .local _ .vmem, ⟨5, _⟩ => ⟨S160x2048, .f32⟩
  | .local _ .vmem, ⟨6, _⟩ => ⟨S160x160, .f32⟩
  | .local _ .vmem, ⟨7, _⟩ => ⟨S160x2048, .bf16⟩
  | .local _ .vmem, ⟨8, _⟩ => ⟨S160x2048, .bf16⟩
  | .local _ .vmem, ⟨9, _⟩ => ⟨S160x1536, .f32⟩
  | _, _ => ⟨S1536x245760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S160x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S160x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1536x245760 : Shape := ⟨2, ![1536, 245760]⟩
abbrev S48x245760 : Shape := ⟨2, ![48, 245760]⟩
abbrev S160x245760 : Shape := ⟨2, ![160, 245760]⟩
abbrev S160x160 : Shape := ⟨2, ![160, 160]⟩
abbrev S160x1536 : Shape := ⟨2, ![160, 1536]⟩
abbrev S48x32x245760 : Shape := ⟨3, ![48, 32, 245760]⟩
abbrev S48x1x245760 : Shape := ⟨3, ![48, 1, 245760]⟩

abbrev nBuf : Space → Nat
  | .hbm => 6
  | .vmem => 6
  | .smem => 0
  | _ => 0

abbrev bufTy : (tb : Table) → Fin (tcTables nBuf tb) → BufTy
  | .hbm, ⟨0, _⟩ => ⟨S1536x245760, .i8⟩
  | .hbm, ⟨1, _⟩ => ⟨S48x245760, .f32⟩
  | .hbm, ⟨2, _⟩ => ⟨S160x245760, .f32⟩
  | .hbm, ⟨3, _⟩ => ⟨S160x160, .f32⟩
  | .hbm, ⟨4, _⟩ => ⟨S160x245760, .bf16⟩
  | .hbm, ⟨5, _⟩ => ⟨S160x1536, .f32⟩
  | .local _ .vmem, ⟨0, _⟩ => ⟨S1536x245760, .i8⟩
  | .local _ .vmem, ⟨1, _⟩ => ⟨S48x245760, .f32⟩
  | .local _ .vmem, ⟨2, _⟩ => ⟨S160x245760, .f32⟩
  | .local _ .vmem, ⟨3, _⟩ => ⟨S160x160, .f32⟩
  | .local _ .vmem, ⟨4, _⟩ => ⟨S160x245760, .bf16⟩
  | .local _ .vmem, ⟨5, _⟩ => ⟨S160x1536, .f32⟩
  | _, _ => ⟨S1536x245760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x245760 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x245760 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x245760 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x245760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelY.lean ====
abbrev S1536x245760 : Shape := ⟨2, ![1536, 245760]⟩
abbrev S48x245760 : Shape := ⟨2, ![48, 245760]⟩
abbrev S160x1536 : Shape := ⟨2, ![160, 1536]⟩
abbrev S160x245760 : Shape := ⟨2, ![160, 245760]⟩
abbrev S160x160 : Shape := ⟨2, ![160, 160]⟩
abbrev S1536x2048 : Shape := ⟨2, ![1536, 2048]⟩
abbrev S48x2048 : Shape := ⟨2, ![48, 2048]⟩
abbrev S160x2048 : Shape := ⟨2, ![160, 2048]⟩
abbrev S256x512 : Shape := ⟨2, ![256, 512]⟩
abbrev S8x512 : Shape := ⟨2, ![8, 512]⟩
abbrev S1x512 : Shape := ⟨2, ![1, 512]⟩
abbrev S32x512 : Shape := ⟨2, ![32, 512]⟩
abbrev S160x256 : Shape := ⟨2, ![160, 256]⟩
abbrev S160x512 : Shape := ⟨2, ![160, 512]⟩

abbrev nBuf : Space → Nat
  | .hbm => 6
  | .vmem => 9
  | .smem => 0
  | _ => 0

abbrev bufTy : (tb : Table) → Fin (tcTables nBuf tb) → BufTy
  | .hbm, ⟨0, _⟩ => ⟨S1536x245760, .i8⟩
  | .hbm, ⟨1, _⟩ => ⟨S48x245760, .f32⟩
  | .hbm, ⟨2, _⟩ => ⟨S160x1536, .bf16⟩
  | .hbm, ⟨3, _⟩ => ⟨S160x245760, .f32⟩
  | .hbm, ⟨4, _⟩ => ⟨S160x160, .f32⟩
  | .hbm, ⟨5, _⟩ => ⟨S160x160, .f32⟩
  | .local _ .vmem, ⟨0, _⟩ => ⟨S1536x2048, .i8⟩
  | .local _ .vmem, ⟨1, _⟩ => ⟨S1536x2048, .i8⟩
  | .local _ .vmem, ⟨2, _⟩ => ⟨S48x2048, .f32⟩
  | .local _ .vmem, ⟨3, _⟩ => ⟨S48x2048, .f32⟩
  | .local _ .vmem, ⟨4, _⟩ => ⟨S160x1536, .bf16⟩
  | .local _ .vmem, ⟨5, _⟩ => ⟨S160x2048, .f32⟩
  | .local _ .vmem, ⟨6, _⟩ => ⟨S160x2048, .f32⟩
  | .local _ .vmem, ⟨7, _⟩ => ⟨S160x160, .f32⟩
  | .local _ .vmem, ⟨8, _⟩ => ⟨S160x160, .f32⟩
  | _, _ => ⟨S1536x245760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceYIdeal.lean ====
abbrev S1536x245760 : Shape := ⟨2, ![1536, 245760]⟩
abbrev S48x245760 : Shape := ⟨2, ![48, 245760]⟩
abbrev S160x1536 : Shape := ⟨2, ![160, 1536]⟩
abbrev S160x245760 : Shape := ⟨2, ![160, 245760]⟩
abbrev S160x160 : Shape := ⟨2, ![160, 160]⟩
abbrev S48x32x245760 : Shape := ⟨3, ![48, 32, 245760]⟩
abbrev S48x1x245760 : Shape := ⟨3, ![48, 1, 245760]⟩

abbrev nBuf : Space → Nat
  | .hbm => 6
  | .vmem => 6
  | .smem => 0
  | _ => 0

abbrev bufTy : (tb : Table) → Fin (tcTables nBuf tb) → BufTy
  | .hbm, ⟨0, _⟩ => ⟨S1536x245760, .i8⟩
  | .hbm, ⟨1, _⟩ => ⟨S48x245760, .f32⟩
  | .hbm, ⟨2, _⟩ => ⟨S160x1536, .bf16⟩
  | .hbm, ⟨3, _⟩ => ⟨S160x245760, .f32⟩
  | .hbm, ⟨4, _⟩ => ⟨S160x160, .f32⟩
  | .hbm, ⟨5, _⟩ => ⟨S160x160, .f32⟩
  | .local _ .vmem, ⟨0, _⟩ => ⟨S1536x245760, .i8⟩
  | .local _ .vmem, ⟨1, _⟩ => ⟨S48x245760, .f32⟩
  | .local _ .vmem, ⟨2, _⟩ => ⟨S160x1536, .bf16⟩
  | .local _ .vmem, ⟨3, _⟩ => ⟨S160x245760, .f32⟩
  | .local _ .vmem, ⟨4, _⟩ => ⟨S160x160, .f32⟩
  | .local _ .vmem, ⟨5, _⟩ => ⟨S160x160, .f32⟩
  | _, _ => ⟨S1536x245760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x245760 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x245760 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x245760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelF.lean ====
abbrev S1x245760x1536 : Shape := ⟨3, ![1, 245760, 1536]⟩
abbrev S48x245760 : Shape := ⟨2, ![48, 245760]⟩
abbrev S160x1536 : Shape := ⟨2, ![160, 1536]⟩
abbrev S1536x245760 : Shape := ⟨2, ![1536, 245760]⟩
abbrev S160x245760 : Shape := ⟨2, ![160, 245760]⟩
abbrev S160x160 : Shape := ⟨2, ![160, 160]⟩
abbrev S1x2048x1536 : Shape := ⟨3, ![1, 2048, 1536]⟩
abbrev S48x2048 : Shape := ⟨2, ![48, 2048]⟩
abbrev S1536x2048 : Shape := ⟨2, ![1536, 2048]⟩
abbrev S160x2048 : Shape := ⟨2, ![160, 2048]⟩
abbrev S1x256x1536 : Shape := ⟨3, ![1, 256, 1536]⟩
abbrev S256x1536 : Shape := ⟨2, ![256, 1536]⟩
abbrev S1536x256 : Shape := ⟨2, ![1536, 256]⟩
abbrev S256x512 : Shape := ⟨2, ![256, 512]⟩
abbrev S8x512 : Shape := ⟨2, ![8, 512]⟩
abbrev S1x512 : Shape := ⟨2, ![1, 512]⟩
abbrev S32x512 : Shape := ⟨2, ![32, 512]⟩
abbrev S160x256 : Shape := ⟨2, ![160, 256]⟩
abbrev S160x512 : Shape := ⟨2, ![160, 512]⟩

abbrev nBuf : Space → Nat
  | .hbm => 7
  | .vmem => 11
  | .smem => 0
  | _ => 0

abbrev bufTy : (tb : Table) → Fin (tcTables nBuf tb) → BufTy
  | .hbm, ⟨0, _⟩ => ⟨S1x245760x1536, .i8⟩
  | .hbm, ⟨1, _⟩ => ⟨S48x245760, .f32⟩
  | .hbm, ⟨2, _⟩ => ⟨S160x1536, .bf16⟩
  | .hbm, ⟨3, _⟩ => ⟨S1536x245760, .i8⟩
  | .hbm, ⟨4, _⟩ => ⟨S160x245760, .f32⟩
  | .hbm, ⟨5, _⟩ => ⟨S160x160, .f32⟩
  | .hbm, ⟨6, _⟩ => ⟨S160x160, .f32⟩
  | .local _ .vmem, ⟨0, _⟩ => ⟨S1x2048x1536, .i8⟩
  | .local _ .vmem, ⟨1, _⟩ => ⟨S1x2048x1536, .i8⟩
  | .local _ .vmem, ⟨2, _⟩ => ⟨S48x2048, .f32⟩
  | .local _ .vmem, ⟨3, _⟩ => ⟨S48x2048, .f32⟩
  | .local _ .vmem, ⟨4, _⟩ => ⟨S160x1536, .bf16⟩
  | .local _ .vmem, ⟨5, _⟩ => ⟨S1536x2048, .i8⟩
  | .local _ .vmem, ⟨6, _⟩ => ⟨S1536x2048, .i8⟩
  | .local _ .vmem, ⟨7, _⟩ => ⟨S160x2048, .f32⟩
  | .local _ .vmem, ⟨8, _⟩ => ⟨S160x2048, .f32⟩
  | .local _ .vmem, ⟨9, _⟩ => ⟨S160x160, .f32⟩
  | .local _ .vmem, ⟨10, _⟩ => ⟨S160x160, .f32⟩
  | _, _ => ⟨S1x245760x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![120], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFIdeal.lean ====
abbrev S1x245760x1536 : Shape := ⟨3, ![1, 245760, 1536]⟩
abbrev S48x245760 : Shape := ⟨2, ![48, 245760]⟩
abbrev S160x1536 : Shape := ⟨2, ![160, 1536]⟩
abbrev S1536x245760 : Shape := ⟨2, ![1536, 245760]⟩
abbrev S160x245760 : Shape := ⟨2, ![160, 245760]⟩
abbrev S160x160 : Shape := ⟨2, ![160, 160]⟩
abbrev S245760x1536 : Shape := ⟨2, ![245760, 1536]⟩
abbrev S48x32x245760 : Shape := ⟨3, ![48, 32, 245760]⟩
abbrev S48x1x245760 : Shape := ⟨3, ![48, 1, 245760]⟩

abbrev nBuf : Space → Nat
  | .hbm => 7
  | .vmem => 7
  | .smem => 0
  | _ => 0

abbrev bufTy : (tb : Table) → Fin (tcTables nBuf tb) → BufTy
  | .hbm, ⟨0, _⟩ => ⟨S1x245760x1536, .i8⟩
  | .hbm, ⟨1, _⟩ => ⟨S48x245760, .f32⟩
  | .hbm, ⟨2, _⟩ => ⟨S160x1536, .bf16⟩
  | .hbm, ⟨3, _⟩ => ⟨S1536x245760, .i8⟩
  | .hbm, ⟨4, _⟩ => ⟨S160x245760, .f32⟩
  | .hbm, ⟨5, _⟩ => ⟨S160x160, .f32⟩
  | .hbm, ⟨6, _⟩ => ⟨S160x160, .f32⟩
  | .local _ .vmem, ⟨0, _⟩ => ⟨S1x245760x1536, .i8⟩
  | .local _ .vmem, ⟨1, _⟩ => ⟨S48x245760, .f32⟩
  | .local _ .vmem, ⟨2, _⟩ => ⟨S160x1536, .bf16⟩
  | .local _ .vmem, ⟨3, _⟩ => ⟨S1536x245760, .i8⟩
  | .local _ .vmem, ⟨4, _⟩ => ⟨S160x245760, .f32⟩
  | .local _ .vmem, ⟨5, _⟩ => ⟨S160x160, .f32⟩
  | .local _ .vmem, ⟨6, _⟩ => ⟨S160x160, .f32⟩
  | _, _ => ⟨S1x245760x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x245760x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x245760 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x245760 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x245760 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelC.lean ====
abbrev S160x160 : Shape := ⟨2, ![160, 160]⟩
abbrev S160x512 : Shape := ⟨2, ![160, 512]⟩
abbrev S160x256 : Shape := ⟨2, ![160, 256]⟩
abbrev S160x1 : Shape := ⟨2, ![160, 1]⟩
abbrev S1x512 : Shape := ⟨2, ![1, 512]⟩
abbrev S160 : Shape := ⟨1, ![160]⟩
abbrev S1x256 : Shape := ⟨2, ![1, 256]⟩
abbrev S1 : Shape := ⟨1, ![1]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S160x160, .f32⟩
  | .hbm, ⟨1, _⟩ => ⟨S160x160, .f32⟩
  | .hbm, ⟨2, _⟩ => ⟨S160x160, .f32⟩
  | .local _ .vmem, ⟨0, _⟩ => ⟨S160x160, .f32⟩
  | .local _ .vmem, ⟨1, _⟩ => ⟨S160x160, .f32⟩
  | .local _ .vmem, ⟨2, _⟩ => ⟨S160x160, .f32⟩
  | .local _ .vmem, ⟨3, _⟩ => ⟨S160x512, .f32⟩
  | _, _ => ⟨S160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c160_i32 : BitVec 32 := 160#32
  let v22 : BitVec 32 := Scalar.addi c0_i32 c160_i32
  let c1_i32 : BitVec 32 := 1#32
  ⟨c0_i32, v22, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v26 : Index := Scalar.indexCast arg4
  let c0_15 : Index := 0#32
  ![v26.toNat, 0]
abbrev stage0_0 : Fin 1 → Memref sig .tc .vmem S160x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceCIdeal.lean ====
abbrev S160x160 : Shape := ⟨2, ![160, 160]⟩
abbrev S1x160x160 : Shape := ⟨3, ![1, 160, 160]⟩
abbrev S1 : Shape := ⟨1, ![1]⟩
abbrev S1x1x1 : Shape := ⟨3, ![1, 1, 1]⟩
abbrev S160 : Shape := ⟨1, ![160]⟩
abbrev S160x1 : Shape := ⟨2, ![160, 1]⟩
abbrev S1x160 : Shape := ⟨2, ![1, 160]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S160x160, .f32⟩
  | .hbm, ⟨1, _⟩ => ⟨S160x160, .f32⟩
  | .hbm, ⟨2, _⟩ => ⟨S160x160, .f32⟩
  | .local _ .vmem, ⟨0, _⟩ => ⟨S160x160, .f32⟩
  | .local _ .vmem, ⟨1, _⟩ => ⟨S160x160, .f32⟩
  | .local _ .vmem, ⟨2, _⟩ => ⟨S160x160, .f32⟩
  | _, _ => ⟨S160x160, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c160_i32 : BitVec 32 := 160#32
  let v13 : BitVec 32 := Scalar.addi c0_i32 c160_i32
  let c1_i32 : BitVec 32 := 1#32
  ⟨c0_i32, v13, c1_i32⟩
@[reducible] def k0_t2_loop : Scf.Loop 32 :=
  let c0_i32_5 : BitVec 32 := 0#32
  let c160_i32_6 : BitVec 32 := 160#32
  let v19 : BitVec 32 := Scalar.addi c0_i32_5 c160_i32_6
  let c1_i32_7 : BitVec 32 := 1#32
  ⟨c0_i32_5, v19, c1_i32_7⟩
abbrev stage0_0 : Fin 1 → Memref sig .tc .vmem S160x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Tile.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

/-- One group of 32 rows of codes, scaled by the group's row of scales. -/
def dq (codes : IVec S32x512 8) (sc : FVec Ideal S1x512 .f32) : FVec Ideal S32x512 .bf16 :=
  mulf (sitofp .bf16 codes) (truncf .bf16 (broadcastTo S32x512 (shapeCast S1x512 sc shapeCasts_S1x512_S1x512) broadcasts_S1x512_S32x512) bitsLt_bf16_f32)

/-- A tile of 256 rows of codes, dequantised group by group. -/
def deq (codes : Vec Ideal S256x512 .i8) (sc : Vec Ideal S8x512 .f32) : FVec Ideal S256x512 .bf16 :=
  concatenate S256x512 0 [⟨S32x512, dq (extractStridedSlice S32x512 ![0, 0] codes slices_S256x512_o0_0_S32x512) (extractStridedSlice S1x512 ![0, 0] sc slices_S8x512_o0_0_S1x512)⟩, ⟨S32x512, dq (extractStridedSlice S32x512 ![32, 0] codes slices_S256x512_o32_0_S32x512) (extractStridedSlice S1x512 ![1, 0] sc slices_S8x512_o1_0_S1x512)⟩, ⟨S32x512, dq (extractStridedSlice S32x512 ![64, 0] codes slices_S256x512_o64_0_S32x512) (extractStridedSlice S1x512 ![2, 0] sc slices_S8x512_o2_0_S1x512)⟩, ⟨S32x512, dq (extractStridedSlice S32x512 ![96, 0] codes slices_S256x512_o96_0_S32x512) (extractStridedSlice S1x512 ![3, 0] sc slices_S8x512_o3_0_S1x512)⟩, ⟨S32x512, dq (extractStridedSlice S32x512 ![128, 0] codes slices_S256x512_o128_0_S32x512) (extractStridedSlice S1x512 ![4, 0] sc slices_S8x512_o4_0_S1x512)⟩, ⟨S32x512, dq (extractStridedSlice S32x512 ![160, 0] codes slices_S256x512_o160_0_S32x512) (extractStridedSlice S1x512 ![5, 0] sc slices_S8x512_o5_0_S1x512)⟩, ⟨S32x512, dq (extractStridedSlice S32x512 ![192, 0] codes slices_S256x512_o192_0_S32x512) (extractStridedSlice S1x512 ![6, 0] sc slices_S8x512_o6_0_S1x512)⟩, ⟨S32x512, dq (extractStridedSlice S32x512 ![224, 0] codes slices_S256x512_o224_0_S32x512) (extractStridedSlice S1x512 ![7, 0] sc slices_S8x512_o7_0_S1x512)⟩] concatenates_S32x512_S32x512_S32x512_S32x512_S32x512_S32x512_S32x512_S32x512_S256x512_d0

/-- Entry `(n, l)` of a dequantised tile: the code times the scale of its group. -/
theorem deq_apply (codes : Vec Ideal S256x512 .i8) (sc : Vec Ideal S8x512 .f32) (n : Fin 256) (l : Fin 512) :
    deq codes sc (ix2 n l) = (((codes (ix2 n l)).toInt : ℝ) : EReal) * sc (ix2 ⟨n.val / 32, by omega⟩ l) := by
  pointwise [deq, dq]
  have key : ∀ (a b : Fin 256) (g g' : Fin 8), a = b → g = g' →
      (FloatOps.sitofp (F := Ideal) FTy.bf16 (codes (ix2 a l)) : EReal) * sc (ix2 g l) = (((codes (ix2 b l)).toInt : ℝ) : EReal) * sc (ix2 g' l) := by
    rintro a _ g _ rfl rfl; rfl
  have hn := n.isLt
  split_ifs <;> exact key _ _ _ _ (Fin.ext (by first | omega | (simp only []; omega))) (Fin.ext (by simp; omega))

/-- One accumulation step: the previous contents plus the product of a tile of `q` with a tile of codes. -/
def wadd (q : FVec Ideal S160x512 .bf16) (codes : Vec Ideal S256x512 .i8) (sc : Vec Ideal S8x512 .f32)
    (prev : Vec Ideal S160x256 .f32) : FVec Ideal S160x256 .f32 :=
  addf (shapeCast S160x256 prev shapeCasts_S160x256_S160x256)
    (matmul dot_S160x512_S256x512_S160x256_1_1_0_0_n_n none q (deq codes sc) (constant S160x256 .f32 0x00000000#32))

theorem wadd_apply (q : FVec Ideal S160x512 .bf16) (codes : Vec Ideal S256x512 .i8) (sc : Vec Ideal S8x512 .f32)
    (prev : Vec Ideal S160x256 .f32) (r : Fin 160) (n : Fin 256) :
    wadd q codes sc prev (ix2 r n) = prev (ix2 r n) + ∑ l : Fin 512, q (ix2 r l) * deq codes sc (ix2 n l) := by
  pointwise [wadd]

/-- Splitting a number into three parts loses nothing and, with the remainders of a finite number zero, the six
    products of the parts add up to the product. -/
theorem qtile_apply (x : Vec Ideal S160x160 .f32) (y : Vec Ideal S160x512 .f32)
    (hx : ∀ i, x i - x i = 0) (hy : ∀ i, y i - y i = 0) (r : Fin 160) (l : Fin 512) :
    k0_pay4 x y (ix2 r l) = ∑ k : Fin 160, x (ix2 r k) * y (ix2 k l) := by
  pointwise [k0_pay4, k0_pay2]
  simp only [hx, hy, sub_zero]
  rw [Fin.sum_univ_two_halves (a := 160) (b := 800) rfl]
  rw [Finset.sum_congr rfl (g := fun k : Fin 160 => x (ix2 r k) * y (ix2 k l)), Finset.sum_eq_zero (s := (Finset.univ : Finset (Fin 800))), add_zero]
  · intro k _
    have hk := k.isLt
    dsimp only
    split_ifs <;> first | omega | simp only [mul_zero, zero_mul]
  · intro k _
    simp only [k.isLt, dif_pos, Fin.eta]

end Cert.KernelIdeal.Val
end
-- ==== Proof.WBody.lean ====
module

public import proofs.«01_k».proof.Proof.Tile

@[expose] public section

set_option maxRecDepth 16384

noncomputable section

namespace Cert.KernelIdeal.Val

open Cert.KernelIdeal Cert.KernelIdeal.Gen Idealize.ShloMosaic Idealize.ShloMosaic.TcCoe Idealize.SL.Sem

/-! ## Stores and loads through rectangles of a matrix -/

/-- The rectangle of `R × C` entries from `(a, b)` in an `A × B` matrix. -/
abbrev rct {A B : ℕ} (a b R C : ℕ) (inb : ∀ d, (![a, b] : Fin 2 → ℕ) d + (![R, C] : Fin 2 → ℕ) d ≤ (![A, B] : Fin 2 → ℕ) d) :
    Rect ⟨2, ![A, B]⟩ := Rect.unit (s := ⟨2, ![A, B]⟩) ![a, b] ![R, C] inb

/-- A load through a rectangle of a buffer holding `x`. -/
abbrev ldR {e : EltTy} {A B : ℕ} {sig : RefSig} {κ : Kind} {sp : Space} (v : Memref sig κ sp ⟨2, ![A, B]⟩ e) (hv : v.IsWhole)
    (x : (⟨2, ![A, B]⟩ : Shape).Idx → Elt Ideal e) (a b R C : ℕ)
    (inb : ∀ d, (![a, b] : Fin 2 → ℕ) d + (![R, C] : Fin 2 → ℕ) d ≤ (![A, B] : Fin 2 → ℕ) d) :
    (⟨2, ![R, C]⟩ : Shape).Idx → Elt Ideal e := View.readAt (Elt Ideal) v.view (rct a b R C inb).toLoadRect (hv.unread x)

/-- A load through a rectangle after the stores `L`. -/
abbrev rdC {e : EltTy} {A B : ℕ} {sig : RefSig} {κ : Kind} {sp : Space} (v : View sig κ sp ⟨2, ![A, B]⟩ e)
    (L : List (View.Piece (Elt Ideal) ⟨2, ![A, B]⟩ e)) (a b R C : ℕ)
    (inb : ∀ d, (![a, b] : Fin 2 → ℕ) d + (![R, C] : Fin 2 → ℕ) d ≤ (![A, B] : Fin 2 → ℕ) d) :
    (⟨2, ![R, C]⟩ : Shape).Idx → Elt Ideal e := v.readCov L (rct a b R C inb).toLoadRect

/-- A store of `w` through a rectangle. -/
abbrev pc {e : EltTy} {A B : ℕ} (a b R C : ℕ)
    (inb : ∀ d, (![a, b] : Fin 2 → ℕ) d + (![R, C] : Fin 2 → ℕ) d ≤ (![A, B] : Fin 2 → ℕ) d)
    (w : (⟨2, ![R, C]⟩ : Shape).Idx → Elt Ideal e) : View.Piece (Elt Ideal) ⟨2, ![A, B]⟩ e := ⟨rct a b R C inb, w⟩

/-- An entry under the last store reads that store. -/
theorem canon_hit {e : EltTy} {A B R C : ℕ} {a b : ℕ} (inb : ∀ d, (![a, b] : Fin 2 → ℕ) d + (![R, C] : Fin 2 → ℕ) d ≤ (![A, B] : Fin 2 → ℕ) d)
    (w : (⟨2, ![R, C]⟩ : Shape).Idx → Elt Ideal e) (L : List (View.Piece (Elt Ideal) ⟨2, ![A, B]⟩ e)) (i : Fin A) (j : Fin B)
    (r : Fin R) (c : Fin C) (hi : i.val = a + r.val) (hj : j.val = b + c.val) :
    View.canon (pc a b R C inb w :: L) (ix2 i j) = w (ix2 r c) := by
  have h := View.canon_cons_emb (Val := Elt Ideal) (s := ⟨2, ![A, B]⟩) (e := e) (rct a b R C inb) w L (ix2 r c)
  rw [← h]
  congr 1
  idx_ext <;> simp [hi, hj]

/-- An entry outside the columns of the last store keeps what was there. -/
theorem canon_miss {e : EltTy} {A B R C : ℕ} {a b : ℕ} (inb : ∀ d, (![a, b] : Fin 2 → ℕ) d + (![R, C] : Fin 2 → ℕ) d ≤ (![A, B] : Fin 2 → ℕ) d)
    (w : (⟨2, ![R, C]⟩ : Shape).Idx → Elt Ideal e) (L : List (View.Piece (Elt Ideal) ⟨2, ![A, B]⟩ e)) (i : Fin A) (j : Fin B)
    (hj : ¬ (b ≤ j.val ∧ j.val < b + C)) :
    View.canon (pc a b R C inb w :: L) (ix2 i j) = View.canon L (ix2 i j) := by
  refine View.canon_cons_of_not_mem _ _ fun hm => hj ?_
  exact (Rect.mem_set_unit (inb := inb)).mp hm 1

/-- A load through a rectangle after some stores. -/
theorem readCov_at {e : EltTy} {A B R C : ℕ} {a b : ℕ} {sig : RefSig} {κ : Kind} {sp : Space} (v : View sig κ sp ⟨2, ![A, B]⟩ e)
    (inb : ∀ d, (![a, b] : Fin 2 → ℕ) d + (![R, C] : Fin 2 → ℕ) d ≤ (![A, B] : Fin 2 → ℕ) d)
    (L : List (View.Piece (Elt Ideal) ⟨2, ![A, B]⟩ e)) (i : Fin A) (j : Fin B)
    (r : Fin R) (c : Fin C) (hi : i.val = a + r.val) (hj : j.val = b + c.val) :
    rdC v L a b R C inb (ix2 r c) = View.canon L (ix2 i j) := by
  show v.readCov L _ _ = _
  rw [View.readCov_eq_canon']
  show View.canon L _ = _
  congr 1
  idx_ext <;> simp [hi, hj]

/-- A load through a rectangle of a buffer holding `x`. -/
theorem readAt_at {e : EltTy} {A B R C : ℕ} {a b : ℕ} {sig : RefSig} {κ : Kind} {sp : Space} (v : Memref sig κ sp ⟨2, ![A, B]⟩ e)
    (hv : v.IsWhole)
    (inb : ∀ d, (![a, b] : Fin 2 → ℕ) d + (![R, C] : Fin 2 → ℕ) d ≤ (![A, B] : Fin 2 → ℕ) d)
    (x : (⟨2, ![A, B]⟩ : Shape).Idx → Elt Ideal e) (i : Fin A) (j : Fin B)
    (r : Fin R) (c : Fin C) (hi : i.val = a + r.val) (hj : j.val = b + c.val) :
    ldR v hv x a b R C inb (ix2 r c) = x (ix2 i j) := by
  show v.view.read (Elt Ideal) (hv.unread x) _ = _
  rw [hv.read_unread]
  congr 1
  idx_ext <;> simp [hi, hj]

/-! ## The stores of one grid point into the accumulated product -/

theorem inbC (j k : ℕ) (hj : j < 4) (hk : k < 6) :
    ∀ d, (![256 * k, 512 * j] : Fin 2 → ℕ) d + (![256, 512] : Fin 2 → ℕ) d ≤ (![1536, 2048] : Fin 2 → ℕ) d :=
  Fin.forall_fin_two.mpr ⟨by show 256 * k + 256 ≤ 1536; omega, by show 512 * j + 512 ≤ 2048; omega⟩
theorem inbS (j k : ℕ) (hj : j < 4) (hk : k < 6) :
    ∀ d, (![8 * k, 512 * j] : Fin 2 → ℕ) d + (![8, 512] : Fin 2 → ℕ) d ≤ (![48, 2048] : Fin 2 → ℕ) d :=
  Fin.forall_fin_two.mpr ⟨by show 8 * k + 8 ≤ 48; omega, by show 512 * j + 512 ≤ 2048; omega⟩
theorem inbY (j : ℕ) (hj : j < 4) :
    ∀ d, (![0, 512 * j] : Fin 2 → ℕ) d + (![160, 512] : Fin 2 → ℕ) d ≤ (![160, 2048] : Fin 2 → ℕ) d :=
  Fin.forall_fin_two.mpr ⟨by show 0 + 160 ≤ 160; omega, by show 512 * j + 512 ≤ 2048; omega⟩
theorem inbW (k : ℕ) (hk : k < 6) :
    ∀ d, (![0, 256 * k] : Fin 2 → ℕ) d + (![160, 256] : Fin 2 → ℕ) d ≤ (![160, 1536] : Fin 2 → ℕ) d :=
  Fin.forall_fin_two.mpr ⟨by show 0 + 160 ≤ 160; omega, by show 256 * k + 256 ≤ 1536; omega⟩

variable (a1 : Memref sig .tc .vmem S1536x2048 .i8) (h1 : a1.IsWhole) (a2 : Memref sig .tc .vmem S48x2048 .f32) (h2 : a2.IsWhole)
  (a3 : Memref sig .tc .vmem S160x2048 .f32) (h3 : a3.IsWhole) (a4 : Memref sig .tc .vmem S160x160 .f32) (h4 : a4.IsWhole)
  (a6 : Memref sig .tc .vmem S160x1536 .f32) (h6 : a6.IsWhole)
  (x0 : Vec Ideal S1536x2048 .i8) (x1 : Vec Ideal S48x2048 .f32) (x2 : Vec Ideal S160x2048 .f32) (x3 : Vec Ideal S160x160 .f32)
  (x5 : Vec Ideal S160x1536 .f32)

/-- Column tile `j` of the orthogonal block. -/
def wq (j : ℕ) (hj : j < 4) : FVec Ideal S160x512 .bf16 :=
  k0_pay4 (ldR a4 h4 x3 (0) (0) 160 160 inb_S160x160_S160x160_0_0)
    (ldR a3 h3 x2 (0) (512 * j) 160 512 (inbY j hj))

/-- The store for column tile `j` of the block and row tile `k` of the codes, over `prev`. -/
def wp (j k : ℕ) (hj : j < 4) (hk : k < 6) (prev : Vec Ideal S160x256 .f32) : View.Piece (Elt Ideal) S160x1536 .f32 :=
  pc 0 (256 * k) 160 256 (inbW k hk) (wadd (wq a3 h3 a4 h4 x2 x3 j hj)
    (ldR a1 h1 x0 (256 * k) (512 * j) 256 512 (inbC j k hj hk))
    (ldR a2 h2 x1 (8 * k) (512 * j) 8 512 (inbS j k hj hk)) prev)

/-- What is there for row tile `k` before the next store: what the stores `L` left. -/
def wrd (k : ℕ) (hk : k < 6) (L : List (View.Piece (Elt Ideal) S160x1536 .f32)) : Vec Ideal S160x256 .f32 :=
  rdC a6.view L 0 (256 * k) 160 256 (inbW k hk)

/-- What was there when the point began. -/
def wrd0 (k : ℕ) (hk : k < 6) : Vec Ideal S160x256 .f32 :=
  ldR a6 h6 x5 0 (256 * k) 160 256 (inbW k hk)

/-- The stores of the first point, last first: zeros, then the 24 accumulation steps. -/
def wlA : (n : ℕ) → List (View.Piece (Elt Ideal) S160x1536 .f32)
  | 0 => [pc 0 0 160 1536 inb_S160x1536_S160x1536_0_0 (k0_pay3 (F := Ideal))]
  | n + 1 => wp a1 h1 a2 h2 a3 h3 a4 h4 x0 x1 x2 x3 (n / 6 % 4) (n % 6) (Nat.mod_lt _ (by norm_num)) (Nat.mod_lt _ (by norm_num))
      (wrd a6 (n % 6) (Nat.mod_lt _ (by norm_num)) (wlA n)) :: wlA n

/-- The stores of a later point, last first: the first six steps start from what the point before left. -/
def wlB : (n : ℕ) → List (View.Piece (Elt Ideal) S160x1536 .f32)
  | 0 => []
  | n + 1 => wp a1 h1 a2 h2 a3 h3 a4 h4 x0 x1 x2 x3 (n / 6 % 4) (n % 6) (Nat.mod_lt _ (by norm_num)) (Nat.mod_lt _ (by norm_num))
      (cond (Nat.ble 6 n) (wrd a6 (n % 6) (Nat.mod_lt _ (by norm_num)) (wlB n)) (wrd0 a6 h6 x5 (n % 6) (Nat.mod_lt _ (by norm_num)))) :: wlB n

/-- One more store keeps the list in step. -/
theorem wlA_step (n : ℕ) (L L' : List (View.Piece (Elt Ideal) S160x1536 .f32))
    (h : L' = wp a1 h1 a2 h2 a3 h3 a4 h4 x0 x1 x2 x3 (n / 6 % 4) (n % 6) (Nat.mod_lt _ (by norm_num)) (Nat.mod_lt _ (by norm_num))
      (wrd a6 (n % 6) (Nat.mod_lt _ (by norm_num)) L) :: L)
    (hL : L = wlA a1 h1 a2 h2 a3 h3 a4 h4 a6 x0 x1 x2 x3 n) :
    L' = wlA a1 h1 a2 h2 a3 h3 a4 h4 a6 x0 x1 x2 x3 (n + 1) := by
  subst hL; exact h

theorem runA_eq (c : Dev nD) (i : grid0.Coords) (a5 : Memref sig .tc .vmem S160x2048 .bf16) (h5 : a5.IsWhole) (hc0 : cond0_0 i) :
    (kernelRun0_A (F := Ideal) c i a1 h1 a2 h2 a3 h3 a4 h4 a5 h5 a6 h6 hc0 x0 x1 x2 x3).2.1
      = wlA a1 h1 a2 h2 a3 h3 a4 h4 a6 x0 x1 x2 x3 24 := by
  iterate 24 refine wlA_step a1 h1 a2 h2 a3 h3 a4 h4 a6 x0 x1 x2 x3 _ _ _ rfl ?_
  rfl

/-- One more store keeps the list in step. -/
theorem wlB_step (n : ℕ) (L L' : List (View.Piece (Elt Ideal) S160x1536 .f32))
    (h : L' = wp a1 h1 a2 h2 a3 h3 a4 h4 x0 x1 x2 x3 (n / 6 % 4) (n % 6) (Nat.mod_lt _ (by norm_num)) (Nat.mod_lt _ (by norm_num))
      (cond (Nat.ble 6 n) (wrd a6 (n % 6) (Nat.mod_lt _ (by norm_num)) L) (wrd0 a6 h6 x5 (n % 6) (Nat.mod_lt _ (by norm_num)))) :: L)
    (hL : L = wlB a1 h1 a2 h2 a3 h3 a4 h4 a6 h6 x0 x1 x2 x3 x5 n) :
    L' = wlB a1 h1 a2 h2 a3 h3 a4 h4 a6 h6 x0 x1 x2 x3 x5 (n + 1) := by
  subst hL; exact h

theorem runB_eq (c : Dev nD) (i : grid0.Coords) (a5 : Memref sig .tc .vmem S160x2048 .bf16) (h5 : a5.IsWhole) (hc0 : ¬ cond0_0 i) :
    (kernelRun0_B (F := Ideal) c i a1 h1 a2 h2 a3 h3 a4 h4 a5 h5 a6 h6 hc0 x0 x1 x2 x3 x5).2.1
      = wlB a1 h1 a2 h2 a3 h3 a4 h4 a6 h6 x0 x1 x2 x3 x5 24 := by
  iterate 24 refine wlB_step a1 h1 a2 h2 a3 h3 a4 h4 a6 h6 x0 x1 x2 x3 x5 _ _ _ rfl ?_
  rfl

end Cert.KernelIdeal.Val
end
-- ==== Proof.WVal.lean ====
module

public import proofs.«01_k».proof.Proof.WBody

@[expose] public section

set_option maxRecDepth 16384

noncomputable section

namespace Cert.KernelIdeal.Val

open Cert.KernelIdeal Cert.KernelIdeal.Gen Idealize.ShloMosaic Idealize.ShloMosaic.TcCoe Idealize.SL.Sem

variable (a1 : Memref sig .tc .vmem S1536x2048 .i8) (h1 : a1.IsWhole) (a2 : Memref sig .tc .vmem S48x2048 .f32) (h2 : a2.IsWhole)
  (a3 : Memref sig .tc .vmem S160x2048 .f32) (h3 : a3.IsWhole) (a4 : Memref sig .tc .vmem S160x160 .f32) (h4 : a4.IsWhole)
  (a6 : Memref sig .tc .vmem S160x1536 .f32) (h6 : a6.IsWhole)
  (x0 : Vec Ideal S1536x2048 .i8) (x1 : Vec Ideal S48x2048 .f32) (x2 : Vec Ideal S160x2048 .f32) (x3 : Vec Ideal S160x160 .f32)
  (x5 : Vec Ideal S160x1536 .f32)

/-- Entry `(r, s)` of the orthogonal block: the product of the inverse factor with the block of `y`. -/
def qb (r : Fin 160) (s : Fin 2048) : EReal := ∑ k : Fin 160, x3 (ix2 r k) * x2 (ix2 k s)

/-- Entry `(c, s)` of the dequantised block. -/
def ab (c : Fin 1536) (s : Fin 2048) : EReal := (((x0 (ix2 c s)).toInt : ℝ) : EReal) * x1 (ix2 ⟨c.val / 32, by omega⟩ s)

/-- The part of entry `(r, c)` of the product that column tile `j` gives. -/
def tile (r : Fin 160) (c : Fin 1536) (j : Fin 4) : EReal :=
  ∑ l : Fin 512, qb x2 x3 r ⟨j.val * 512 + l.val, by omega⟩ * ab x0 x1 c ⟨j.val * 512 + l.val, by omega⟩

theorem self_sub {S T : Shape} (f : S.Idx → T.Idx) (x : T.Idx → EReal) (hx : ∀ i, x i - x i = 0) (i : S.Idx) : x (f i) - x (f i) = 0 := hx _

theorem wq_at (hx3 : ∀ i, x3 i - x3 i = (0 : EReal)) (hx2 : ∀ i, x2 i - x2 i = (0 : EReal)) (j : Fin 4) (r : Fin 160) (l : Fin 512) :
    wq a3 h3 a4 h4 x2 x3 j.val j.isLt (ix2 r l) = qb x2 x3 r ⟨j.val * 512 + l.val, by omega⟩ := by
  have e3 : ∀ (a b : Fin 160), ldR a4 h4 x3 0 0 160 160 inb_S160x160_S160x160_0_0 (ix2 a b) = x3 (ix2 a b) :=
    fun a b => readAt_at a4 h4 _ x3 a b a b (by omega) (by omega)
  have e2 : ∀ (a : Fin 160) (b : Fin 512), ldR a3 h3 x2 0 (512 * j.val) 160 512 (inbY j.val j.isLt) (ix2 a b) = x2 (ix2 a ⟨j.val * 512 + b.val, by omega⟩) :=
    fun a b => readAt_at a3 h3 _ x2 a _ a b (by omega) (by show j.val * 512 + b.val = _; omega)
  unfold wq
  rw [qtile_apply]
  · simp only [e3, e2]; rfl
  · intro i; idx_vars i; rw [e3]; exact hx3 _
  · intro i; idx_vars i; rw [e2]; exact hx2 _

variable (hx3 : ∀ i, x3 i - x3 i = (0 : EReal)) (hx2 : ∀ i, x2 i - x2 i = (0 : EReal))
include hx3 hx2

/-- A step adds its tile's part where its rows of codes are, … -/
theorem canon_wp_hit (j : Fin 4) (k : ℕ) (hk : k < 6) (prev : Vec Ideal S160x256 .f32) (L : List (View.Piece (Elt Ideal) S160x1536 .f32))
    (r : Fin 160) (c : Fin 1536) (hc : c.val / 256 = k) :
    View.canon (wp a1 h1 a2 h2 a3 h3 a4 h4 x0 x1 x2 x3 j.val k j.isLt hk prev :: L) (ix2 r c)
      = prev (ix2 r ⟨c.val % 256, Nat.mod_lt _ (by norm_num)⟩) + tile x0 x1 x2 x3 r c j := by
  have hm : c.val = 256 * k + c.val % 256 := by omega
  have e0 : ∀ l : Fin 512, ldR a1 h1 x0 (256 * k) (512 * j.val) 256 512 (inbC j.val k j.isLt hk) (ix2 (⟨c.val % 256, Nat.mod_lt _ (by norm_num)⟩ : Fin 256) l)
      = x0 (ix2 c ⟨j.val * 512 + l.val, by omega⟩) :=
    fun l => readAt_at a1 h1 _ x0 c _ _ l hm (by show j.val * 512 + l.val = _; omega)
  have e1 : ∀ l : Fin 512, ldR a2 h2 x1 (8 * k) (512 * j.val) 8 512 (inbS j.val k j.isLt hk) (ix2 (⟨c.val % 256 / 32, by omega⟩ : Fin 8) l)
      = x1 (ix2 ⟨c.val / 32, by omega⟩ ⟨j.val * 512 + l.val, by omega⟩) :=
    fun l => readAt_at a2 h2 _ x1 _ _ _ l (by show c.val / 32 = _; simp only []; omega) (by show j.val * 512 + l.val = _; omega)
  unfold wp
  rw [canon_hit _ _ _ r c r ⟨c.val % 256, Nat.mod_lt _ (by norm_num)⟩ (by omega) hm, wadd_apply]
  congr 1
  refine Finset.sum_congr rfl fun l _ => ?_
  rw [wq_at a3 h3 a4 h4 x2 x3 hx3 hx2 j r l, deq_apply, e0, e1]
  rfl

omit hx3 hx2 in
/-- … and leaves the other rows' entries. -/
theorem canon_wp_miss (j k : ℕ) (hj : j < 4) (hk : k < 6) (prev : Vec Ideal S160x256 .f32) (L : List (View.Piece (Elt Ideal) S160x1536 .f32))
    (r : Fin 160) (c : Fin 1536) (hc : ¬ k = c.val / 256) :
    View.canon (wp a1 h1 a2 h2 a3 h3 a4 h4 x0 x1 x2 x3 j k hj hk prev :: L) (ix2 r c) = View.canon L (ix2 r c) :=
  canon_miss _ _ _ r c (by omega)

omit hx3 hx2 in
theorem wrd_at (k : ℕ) (hk : k < 6) (L : List (View.Piece (Elt Ideal) S160x1536 .f32)) (r : Fin 160) (c : Fin 1536) (hc : c.val / 256 = k) :
    wrd a6 k hk L (ix2 r ⟨c.val % 256, Nat.mod_lt _ (by norm_num)⟩) = View.canon L (ix2 r c) :=
  readCov_at _ _ L r c r _ (by omega) (by show c.val = 256 * k + c.val % 256; omega)

omit hx3 hx2 in
theorem wrd0_at (k : ℕ) (hk : k < 6) (r : Fin 160) (c : Fin 1536) (hc : c.val / 256 = k) :
    wrd0 a6 h6 x5 k hk (ix2 r ⟨c.val % 256, Nat.mod_lt _ (by norm_num)⟩) = x5 (ix2 r c) :=
  readAt_at _ _ _ x5 r c r _ (by omega) (by show c.val = 256 * k + c.val % 256; omega)

theorem wlA_val (r : Fin 160) (c : Fin 1536) (n : ℕ) :
    View.canon (wlA a1 h1 a2 h2 a3 h3 a4 h4 a6 x0 x1 x2 x3 n) (ix2 r c)
      = ∑ m ∈ Finset.range n, if m % 6 = c.val / 256 then tile x0 x1 x2 x3 r c ⟨m / 6 % 4, Nat.mod_lt _ (by norm_num)⟩ else 0 := by
  induction n with
  | zero =>
    unfold wlA
    rw [canon_hit _ _ _ r c r c (by omega) (by omega), Finset.range_zero, Finset.sum_empty]
    pointwise [k0_pay3]
  | succ n ih =>
    unfold wlA
    rw [Finset.sum_range_succ, ← ih]
    by_cases h : n % 6 = c.val / 256
    · rw [canon_wp_hit a1 h1 a2 h2 a3 h3 a4 h4 x0 x1 x2 x3 hx3 hx2 ⟨n / 6 % 4, Nat.mod_lt _ (by norm_num)⟩ (n % 6) _ _ _ r c h.symm,
        wrd_at a6 (n % 6) _ _ r c h.symm, if_pos h]
    · rw [canon_wp_miss a1 h1 a2 h2 a3 h3 a4 h4 x0 x1 x2 x3 _ _ _ _ _ _ r c h, if_neg h, add_zero]

theorem wlB_val (r : Fin 160) (c : Fin 1536) (n : ℕ) (hn : c.val / 256 < n) :
    View.canon (wlB a1 h1 a2 h2 a3 h3 a4 h4 a6 h6 x0 x1 x2 x3 x5 n) (ix2 r c)
      = x5 (ix2 r c) + ∑ m ∈ Finset.range n, if m % 6 = c.val / 256 then tile x0 x1 x2 x3 r c ⟨m / 6 % 4, Nat.mod_lt _ (by norm_num)⟩ else 0 := by
  induction n with
  | zero => omega
  | succ n ih =>
    have hc := c.isLt
    unfold wlB
    rw [Finset.sum_range_succ, ← add_assoc]
    by_cases h : n % 6 = c.val / 256
    · rw [canon_wp_hit a1 h1 a2 h2 a3 h3 a4 h4 x0 x1 x2 x3 hx3 hx2 ⟨n / 6 % 4, Nat.mod_lt _ (by norm_num)⟩ (n % 6) _ _ _ r c h.symm, if_pos h]
      congr 1
      by_cases h6' : 6 ≤ n
      · rw [← ih (by omega), Nat.ble_eq_true_of_le h6', cond_true, wrd_at a6 (n % 6) _ _ r c h.symm]
      · rw [Finset.sum_eq_zero, add_zero, (Bool.eq_false_iff.mpr fun h => h6' (Nat.le_of_ble_eq_true h) : Nat.ble 6 n = false), cond_false, wrd0_at a6 h6 x5 (n % 6) _ r c h.symm]
        intro m hm
        have := Finset.mem_range.mp hm
        exact if_neg (by omega)
    · rw [canon_wp_miss a1 h1 a2 h2 a3 h3 a4 h4 x0 x1 x2 x3 _ _ _ _ _ _ r c h, if_neg h, add_zero, ih (by omega)]

omit hx3 hx2 in
/-- The steps for one entry's rows of codes run through the four column tiles. -/
theorem sum_steps (f : Fin 4 → EReal) (q : ℕ) (hq : q < 6) :
    (∑ m ∈ Finset.range 24, if m % 6 = q then f ⟨m / 6 % 4, Nat.mod_lt _ (by norm_num)⟩ else 0) = ∑ j, f j := by
  interval_cases q <;> simp [Finset.sum_range_succ, Fin.sum_univ_four] <;> rfl

omit hx3 hx2 in
theorem sum_tiles (r : Fin 160) (c : Fin 1536) :
    ∑ j, tile x0 x1 x2 x3 r c j = ∑ s : Fin 2048, qb x2 x3 r s * ab x0 x1 c s := by
  rw [Fin.sum_univ_tiles 4 512 rfl]
  rfl

/-- The accumulated product after the first point. -/
theorem runA_val (c : Dev nD) (i : grid0.Coords) (a5 : Memref sig .tc .vmem S160x2048 .bf16) (h5 : a5.IsWhole) (hc0 : cond0_0 i)
    (r : Fin 160) (n : Fin 1536) :
    View.canon (kernelRun0_A (F := Ideal) c i a1 h1 a2 h2 a3 h3 a4 h4 a5 h5 a6 h6 hc0 x0 x1 x2 x3).2.1 (ix2 r n)
      = ∑ s : Fin 2048, qb x2 x3 r s * ab x0 x1 n s := by
  rw [runA_eq, wlA_val a1 h1 a2 h2 a3 h3 a4 h4 a6 x0 x1 x2 x3 hx3 hx2, sum_steps _ _ (by omega), sum_tiles]

/-- The accumulated product after a later point. -/
theorem runB_val (c : Dev nD) (i : grid0.Coords) (a5 : Memref sig .tc .vmem S160x2048 .bf16) (h5 : a5.IsWhole) (hc0 : ¬ cond0_0 i)
    (r : Fin 160) (n : Fin 1536) :
    View.canon (kernelRun0_B (F := Ideal) c i a1 h1 a2 h2 a3 h3 a4 h4 a5 h5 a6 h6 hc0 x0 x1 x2 x3 x5).2.1 (ix2 r n)
      = x5 (ix2 r n) + ∑ s : Fin 2048, qb x2 x3 r s * ab x0 x1 n s := by
  rw [runB_eq, wlB_val a1 h1 a2 h2 a3 h3 a4 h4 a6 h6 x0 x1 x2 x3 x5 hx3 hx2 r n 24 (by omega), sum_steps _ _ (by omega), sum_tiles]

/-- The four stores of the orthogonal block. -/
def qlist : List (View.Piece (Elt Ideal) S160x2048 .bf16) :=
  [pc 0 1536 160 512 (inbY 3 (by decide)) (wq a3 h3 a4 h4 x2 x3 3 (by decide)), pc 0 1024 160 512 (inbY 2 (by decide)) (wq a3 h3 a4 h4 x2 x3 2 (by decide)),
   pc 0 512 160 512 (inbY 1 (by decide)) (wq a3 h3 a4 h4 x2 x3 1 (by decide)), pc 0 0 160 512 (inbY 0 (by decide)) (wq a3 h3 a4 h4 x2 x3 0 (by decide))]

theorem qlist_val (r : Fin 160) (s : Fin 2048) : View.canon (qlist a3 h3 a4 h4 x2 x3) (ix2 r s) = qb x2 x3 r s := by
  have hs := s.isLt
  have key : ∀ (j : Fin 4) (l : Fin 512), s.val = j.val * 512 + l.val → wq a3 h3 a4 h4 x2 x3 j.val j.isLt (ix2 r l) = qb x2 x3 r s := by
    intro j l e
    rw [wq_at a3 h3 a4 h4 x2 x3 hx3 hx2]
    congr 1
    exact Fin.ext e.symm
  unfold qlist
  by_cases h3' : 1536 ≤ s.val
  · rw [canon_hit _ _ _ r s r ⟨s.val - 1536, by omega⟩ (by omega) (by simp only []; omega)]; exact key 3 _ (by simp; omega)
  rw [canon_miss _ _ _ r s (by omega)]
  by_cases h2' : 1024 ≤ s.val
  · rw [canon_hit _ _ _ r s r ⟨s.val - 1024, by omega⟩ (by omega) (by simp only []; omega)]; exact key 2 _ (by simp; omega)
  rw [canon_miss _ _ _ r s (by omega)]
  by_cases h1' : 512 ≤ s.val
  · rw [canon_hit _ _ _ r s r ⟨s.val - 512, by omega⟩ (by omega) (by simp only []; omega)]; exact key 1 _ (by simp; omega)
  rw [canon_miss _ _ _ r s (by omega), canon_hit _ _ _ r s r ⟨s.val, by omega⟩ (by omega) (by simp only []; omega)]
  exact key 0 _ (by simp)

theorem qA_val (c : Dev nD) (i : grid0.Coords) (a5 : Memref sig .tc .vmem S160x2048 .bf16) (h5 : a5.IsWhole) (hc0 : cond0_0 i)
    (r : Fin 160) (s : Fin 2048) :
    View.canon (kernelRun0_A (F := Ideal) c i a1 h1 a2 h2 a3 h3 a4 h4 a5 h5 a6 h6 hc0 x0 x1 x2 x3).1 (ix2 r s) = qb x2 x3 r s :=
  (congrFun (congrArg View.canon (show _ = qlist a3 h3 a4 h4 x2 x3 from rfl)) _).trans (qlist_val a3 h3 a4 h4 x2 x3 hx3 hx2 r s)

theorem qB_val (c : Dev nD) (i : grid0.Coords) (a5 : Memref sig .tc .vmem S160x2048 .bf16) (h5 : a5.IsWhole) (hc0 : ¬ cond0_0 i)
    (r : Fin 160) (s : Fin 2048) :
    View.canon (kernelRun0_B (F := Ideal) c i a1 h1 a2 h2 a3 h3 a4 h4 a5 h5 a6 h6 hc0 x0 x1 x2 x3 x5).1 (ix2 r s) = qb x2 x3 r s :=
  (congrFun (congrArg View.canon (show _ = qlist a3 h3 a4 h4 x2 x3 from rfl)) _).trans (qlist_val a3 h3 a4 h4 x2 x3 hx3 hx2 r s)

/-! The same, of the buffers' contents as the run names them. -/

theorem outA4_val (c : Dev nD) (i : grid0.Coords) (a5 : Memref sig .tc .vmem S160x2048 .bf16) (h5 : a5.IsWhole) (hc0 : cond0_0 i)
    (r : Fin 160) (s : Fin 2048) :
    out0_A_4 (F := Ideal) c i a1 h1 a2 h2 a3 h3 a4 h4 a5 h5 a6 h6 hc0 x0 x1 x2 x3 (ix2 r s) = qb x2 x3 r s :=
  (congrFun (View.read_writes_junk_eq_canon _ _) _).trans (qA_val a1 h1 a2 h2 a3 h3 a4 h4 a6 h6 x0 x1 x2 x3 hx3 hx2 c i a5 h5 hc0 r s)

theorem outB4_val (c : Dev nD) (i : grid0.Coords) (a5 : Memref sig .tc .vmem S160x2048 .bf16) (h5 : a5.IsWhole) (hc0 : ¬ cond0_0 i)
    (r : Fin 160) (s : Fin 2048) :
    out0_B_4 (F := Ideal) c i a1 h1 a2 h2 a3 h3 a4 h4 a5 h5 a6 h6 hc0 x0 x1 x2 x3 x5 (ix2 r s) = qb x2 x3 r s :=
  (congrFun (View.read_writes_junk_eq_canon _ _) _).trans (qB_val a1 h1 a2 h2 a3 h3 a4 h4 a6 h6 x0 x1 x2 x3 x5 hx3 hx2 c i a5 h5 hc0 r s)

theorem outA5_val (c : Dev nD) (i : grid0.Coords) (a5 : Memref sig .tc .vmem S160x2048 .bf16) (h5 : a5.IsWhole) (hc0 : cond0_0 i)
    (r : Fin 160) (n : Fin 1536) :
    out0_A_5 (F := Ideal) c i a1 h1 a2 h2 a3 h3 a4 h4 a5 h5 a6 h6 hc0 x0 x1 x2 x3 (ix2 r n)
      = 0 + ∑ s : Fin 2048, qb x2 x3 r s * ab x0 x1 n s := by
  rw [zero_add]
  exact (congrFun (View.read_writes_junk_eq_canon _ _) _).trans (runA_val a1 h1 a2 h2 a3 h3 a4 h4 a6 h6 x0 x1 x2 x3 hx3 hx2 c i a5 h5 hc0 r n)

theorem outB5_val (c : Dev nD) (i : grid0.Coords) (a5 : Memref sig .tc .vmem S160x2048 .bf16) (h5 : a5.IsWhole) (hc0 : ¬ cond0_0 i)
    (r : Fin 160) (n : Fin 1536) :
    out0_B_5 (F := Ideal) c i a1 h1 a2 h2 a3 h3 a4 h4 a5 h5 a6 h6 hc0 x0 x1 x2 x3 x5 (ix2 r n)
      = x5 (ix2 r n) + ∑ s : Fin 2048, qb x2 x3 r s * ab x0 x1 n s :=
  (congrFun (View.read_writes_junk_eq_canon _ _) _).trans (runB_val a1 h1 a2 h2 a3 h3 a4 h4 a6 h6 x0 x1 x2 x3 x5 hx3 hx2 c i a5 h5 hc0 r n)

end Cert.KernelIdeal.Val
end
-- ==== Proof.KBlk.lean ====
module

public import proofs.«01_k».proof.Proof.WVal
public import proofs.«01_k».proof.Proof.Gen.KernelIdeal.Value

@[expose] public section

set_option maxRecDepth 16384

noncomputable section

namespace Cert.KernelIdeal.Val

open Cert.KernelIdeal Cert.KernelIdeal.Gen Idealize.ShloMosaic Idealize.ShloMosaic.TcCoe Idealize.SL.Sem

/-! ## The two results of the whole grid -/

/-- Entry `(r, s)` of the orthogonal basis, transposed. -/
def qv (Y : S160x245760.Idx → EReal) (X : S160x160.Idx → EReal) (r : Fin 160) (s : Fin 245760) : EReal :=
  ∑ k : Fin 160, X (ix2 r k) * Y (ix2 k s)

/-- Entry `(c, s)` of the dequantised matrix, transposed. -/
def av (C : S1536x245760.Idx → BitVec 8) (D : S48x245760.Idx → EReal) (c : Fin 1536) (s : Fin 245760) : EReal :=
  (((C (ix2 c s)).toInt : ℝ) : EReal) * D (ix2 ⟨c.val / 32, by omega⟩ s)

/-- Entry `(r, c)` of the product of the two. -/
def wv (C : S1536x245760.Idx → BitVec 8) (D : S48x245760.Idx → EReal) (Y : S160x245760.Idx → EReal) (X : S160x160.Idx → EReal)
    (r : Fin 160) (c : Fin 1536) : EReal := ∑ s : Fin 245760, qv Y X r s * av C D c s

theorem idx : ∀ t : Fin cfg0.N, win0_0.index t = ![0, t.val] ∧ win0_1.index t = ![0, t.val] ∧ win0_2.index t = ![0, t.val]
    ∧ win0_3.index t = ![0, 0] ∧ win0_4.index t = ![0, t.val] ∧ win0_5.index t = ![0, 0] :=
  (by decide +kernel : ∀ t : Fin grid0.N, _)

variable (m : (ℓ : Loc nD τ sig) → Buf (Elt Ideal) ℓ) (c : Dev nD)

theorem iblk0 (t : Fin cfg0.N) (a : Fin 1536) (b : Fin 2048) (s : Fin 245760) (hs : s.val = t.val * 2048 + b.val) :
    (show Vec Ideal S1536x2048 .i8 from iblk m c 0 t) (ix2 a b) = m ((c : Thread nD τ).loc main_arg0) (ix2 a s) := by
  blk_point [iblk, V, idx t]
theorem iblk1 (t : Fin cfg0.N) (a : Fin 48) (b : Fin 2048) (s : Fin 245760) (hs : s.val = t.val * 2048 + b.val) :
    (show Vec Ideal S48x2048 .f32 from iblk m c 1 t) (ix2 a b) = m ((c : Thread nD τ).loc main_arg1) (ix2 a s) := by
  blk_point [iblk, V, idx t]
theorem iblk2 (t : Fin cfg0.N) (a : Fin 160) (b : Fin 2048) (s : Fin 245760) (hs : s.val = t.val * 2048 + b.val) :
    (show Vec Ideal S160x2048 .f32 from iblk m c 2 t) (ix2 a b) = m ((c : Thread nD τ).loc main_arg2) (ix2 a s) := by
  blk_point [iblk, V, idx t]
theorem iblk3 (t : Fin cfg0.N) (a b : Fin 160) :
    (show Vec Ideal S160x160 .f32 from iblk m c 3 t) (ix2 a b) = m ((c : Thread nD τ).loc main_arg3) (ix2 a b) := by
  blk_point [iblk, V, idx t]

/-- The arguments whose three-way split must leave no remainder. -/
structure Fin' : Prop where
  y : ∀ i : S160x245760.Idx, (show EReal from m ((c : Thread nD τ).loc main_arg2) i) - (show EReal from m ((c : Thread nD τ).loc main_arg2) i) = 0
  x : ∀ i : S160x160.Idx, (show EReal from m ((c : Thread nD τ).loc main_arg3) i) - (show EReal from m ((c : Thread nD τ).loc main_arg3) i) = 0

variable {m c} (hf : Fin' m c)
include hf

theorem fin2 (t : Fin cfg0.N) (i : S160x2048.Idx) :
    (show Vec Ideal S160x2048 .f32 from iblk m c 2 t) i - (show Vec Ideal S160x2048 .f32 from iblk m c 2 t) i = (0 : EReal) := by
  have ht : t.val < 120 := Nat.lt_of_lt_of_eq t.isLt N_0
  idx_vars i
  have e := iblk2 m c t i0 i1 ⟨t.val * 2048 + i1.val, by omega⟩ rfl
  exact (congrArg (fun z : EReal => z - z) e).trans (hf.y _)
theorem fin3 (t : Fin cfg0.N) (i : S160x160.Idx) :
    (show Vec Ideal S160x160 .f32 from iblk m c 3 t) i - (show Vec Ideal S160x160 .f32 from iblk m c 3 t) i = (0 : EReal) := by
  idx_vars i
  exact (congrArg (fun z : EReal => z - z) (iblk3 m c t i0 i1)).trans (hf.x _)

omit hf in
theorem qb_eq (t : Fin cfg0.N) (r : Fin 160) (b : Fin 2048) (s : Fin 245760) (hs : s.val = t.val * 2048 + b.val) :
    qb (iblk m c 2 t) (iblk m c 3 t) r b = qv (m ((c : Thread nD τ).loc main_arg2)) (m ((c : Thread nD τ).loc main_arg3)) r s :=
  Finset.sum_congr rfl fun k _ => congrArg₂ (· * ·) (iblk3 m c t r k) (iblk2 m c t k b s hs)

omit hf in
theorem ab_eq (t : Fin cfg0.N) (n : Fin 1536) (b : Fin 2048) (s : Fin 245760) (hs : s.val = t.val * 2048 + b.val) :
    ab (iblk m c 0 t) (iblk m c 1 t) n b = av (m ((c : Thread nD τ).loc main_arg0)) (m ((c : Thread nD τ).loc main_arg1)) n s :=
  congrArg₂ (· * ·) (congrArg (fun z : BitVec 8 => ((z.toInt : ℝ) : EReal)) (iblk0 m c t n b s hs)) (iblk1 m c t _ b s hs)

end Cert.KernelIdeal.Val
end
-- ==== Proof.KVal.lean ====
module

public import proofs.«01_k».proof.Proof.KBlk
public import proofs.«01_k».proof.Proof.Gen.KernelIdeal.Value

@[expose] public section

set_option maxRecDepth 16384

noncomputable section

namespace Cert.KernelIdeal.Val

open Cert.KernelIdeal Cert.KernelIdeal.Gen Idealize.ShloMosaic Idealize.ShloMosaic.TcCoe Idealize.SL.Sem

variable {m : (ℓ : Loc nD τ sig) → Buf (Elt Ideal) ℓ} {c : Dev nD} (hf : Fin' m c)
include hf

/-- What a point leaves in the block of the basis. -/
theorem out4_at (t : Fin cfg0.N) (r : Fin 160) (b : Fin 2048) :
    (outsAt0 m c t.val t.isLt).1 (ix2 r b) = qb (iblk m c 2 t) (iblk m c 3 t) r b := by
  by_cases h : t.val % 120 = 0
  · have e := outA4_val (ms0_0 t) (hs0_0 t) (ms0_1 t) (hs0_1 t) (ms0_2 t) (hs0_2 t) (ms0_3 t) (hs0_3 t) (ms0_5 t) (hs0_5 t)
        (iblk m c 0 t) (iblk m c 1 t) (iblk m c 2 t) (iblk m c 3 t) (fin3 hf t) (fin2 hf t) c (grid0.coords t) (ms0_4 t) (hs0_4 t)
        ((hcond0_0 t).mpr h) r b
    rw [outsAt0_A m c t h]
    dsimp only
    exact e
  · have e := outB4_val (ms0_0 t) (hs0_0 t) (ms0_1 t) (hs0_1 t) (ms0_2 t) (hs0_2 t) (ms0_3 t) (hs0_3 t) (ms0_5 t) (hs0_5 t)
        (iblk m c 0 t) (iblk m c 1 t) (iblk m c 2 t) (iblk m c 3 t) (outsAt0 m c (t.val - 1) (Nat.lt_of_le_of_lt (Nat.sub_le _ _) t.isLt)).2 (fin3 hf t) (fin2 hf t) c (grid0.coords t) (ms0_4 t) (hs0_4 t)
        (fun h' => h ((hcond0_0 t).mp h')) r b
    rw [outsAt0_B m c t h]
    dsimp only
    exact e

/-- The basis, transposed. -/
theorem final4 : (dats m 0 c).arrAt 4 (cfgs 0).N
    = fun i : S160x245760.Idx => qv (m ((c : Thread nD τ).loc main_arg2)) (m ((c : Thread nD τ).loc main_arg3)) (i 0) (i 1) := by
  refine (dats m 0 c).arrAt_eq_of_covers 4 _ (by decide +kernel) fun t ht y => ?_
  blk_simp
  rw [after0_4]
  idx_vars y
  refine ((out4_at hf t y0 y1).trans (qb_eq t y0 y1 ⟨t.val * 2048 + y1.val, by have := Nat.lt_of_lt_of_eq t.isLt N_0; omega⟩ rfl)).trans
    (congrArg₂ (qv _ _) (Fin.ext ?_) (Fin.ext ?_))
  · simp [idx t]
  · simp [idx t]

/-- One point's addend to the product. -/
def term (m : (ℓ : Loc nD τ sig) → Buf (Elt Ideal) ℓ) (c : Dev nD) (t : Fin cfg0.N) (j : S160x1536.Idx) : EReal :=
  ∑ s : Fin 2048, qb (iblk m c 2 t) (iblk m c 3 t) (j 0) s * ab (iblk m c 0 t) (iblk m c 1 t) (j 1) s

theorem step0 (t : Fin cfg0.N) (h : t.val % 120 = 0) (j : S160x1536.Idx) :
    (outsAt0 m c t.val t.isLt).2 j = (0 : EReal) + term m c t j := by
  idx_vars j
  exact (congrFun (congrArg Prod.snd (outsAt0_A m c t h)) (ix2 j0 j1)).trans
      (outA5_val (ms0_0 t) (hs0_0 t) (ms0_1 t) (hs0_1 t) (ms0_2 t) (hs0_2 t) (ms0_3 t) (hs0_3 t) (ms0_5 t) (hs0_5 t)
        (iblk m c 0 t) (iblk m c 1 t) (iblk m c 2 t) (iblk m c 3 t) (fin3 hf t) (fin2 hf t) c (grid0.coords t) (ms0_4 t) (hs0_4 t)
        ((hcond0_0 t).mpr h) j0 j1)

theorem step1 (t : Fin cfg0.N) (h : ¬ t.val % 120 = 0) (j : S160x1536.Idx) :
    (outsAt0 m c t.val t.isLt).2 j
      = (show EReal from (outsAt0 m c (t.val - 1) (Nat.lt_of_le_of_lt (Nat.sub_le _ _) t.isLt)).2 j) + term m c t j := by
  idx_vars j
  exact (congrFun (congrArg Prod.snd (outsAt0_B m c t h)) (ix2 j0 j1)).trans
      (outB5_val (ms0_0 t) (hs0_0 t) (ms0_1 t) (hs0_1 t) (ms0_2 t) (hs0_2 t) (ms0_3 t) (hs0_3 t) (ms0_5 t) (hs0_5 t)
        (iblk m c 0 t) (iblk m c 1 t) (iblk m c 2 t) (iblk m c 3 t) _ (fin3 hf t) (fin2 hf t) c (grid0.coords t) (ms0_4 t) (hs0_4 t)
        (fun h' => h ((hcond0_0 t).mp h')) j0 j1)

/-- The last point leaves the whole product. -/
theorem out5_last (t : Fin cfg0.N) (ht : t.val + 1 = cfg0.N) (j : S160x1536.Idx) :
    (outsAt0 m c t.val t.isLt).2 j = wv (m ((c : Thread nD τ).loc main_arg0)) (m ((c : Thread nD τ).loc main_arg1))
      (m ((c : Thread nD τ).loc main_arg2)) (m ((c : Thread nD τ).loc main_arg3)) (j 0) (j 1) := by
  refine (Pipeline.eq_sum_fin_of_reset_step_apply_last (M := EReal) (fun n h => (outsAt0 m c n h).2) 120 (fun _ => 0)
    (term m c) (step0 hf) (step1 hf) (le_of_eq N_0) t ht j).trans ?_
  rw [zero_add]
  unfold wv
  refine Eq.trans ?_ (Fin.sum_univ_tiles cfg0.N 2048 (by rw [show cfg0.N = 120 from N_0])
    (fun s : Fin 245760 => qv (m ((c : Thread nD τ).loc main_arg2)) (m ((c : Thread nD τ).loc main_arg3)) (j 0) s
      * av (m ((c : Thread nD τ).loc main_arg0)) (m ((c : Thread nD τ).loc main_arg1)) (j 1) s)).symm
  refine Finset.sum_congr rfl fun p _ => ?_
  unfold term
  refine Finset.sum_congr rfl fun s _ => ?_
  exact congrArg₂ (· * ·) (qb_eq p (j 0) s _ rfl) (ab_eq p (j 1) s _ rfl)

/-- The last point of the grid. -/
def lastPt : Fin cfg0.N := ⟨119, by rw [show cfg0.N = 120 from N_0]; omega⟩

/-- The product with the matrix. -/
theorem final5 : (dats m 0 c).arrAt 5 (cfgs 0).N
    = fun i : S160x1536.Idx => wv (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_after_last 5 lastPt (by decide +kernel) _ fun j => ?_
  blk_simp
  rw [after0_5]
  exact out5_last hf lastPt N_0.symm _

end Cert.KernelIdeal.Val
end
-- ==== Proof.RVal.lean ====
module

public import Idealize.ShloMosaic.Lib.Pointwise
public import proofs.«01_k».proof.Proof.KVal
public import proofs.«01_k».proof.Proof.Gen.ReferenceIdeal.Value

@[expose] public section

set_option maxRecDepth 16384

noncomputable section

namespace Cert.ReferenceIdeal.Val

open Cert.ReferenceIdeal Cert.ReferenceIdeal.Gen Idealize.ShloMosaic
open Cert.KernelIdeal.Val (qv av wv)

/-! ## The two results of the reference, entry by entry -/

variable (C : Vec Ideal S1536x245760 .i8) (D : Vec Ideal S48x245760 .f32) (Y : Vec Ideal S160x245760 .f32) (X : Vec Ideal S160x160 .f32)

/-- The basis is the factor times the sketch. -/
theorem ref4 : k0_pay1 (F := Ideal) X Y = fun i : S160x245760.Idx => qv Y X (i 0) (i 1) := by
  funext i
  idx_vars i
  show (_ : EReal) = _
  pointwise [k0_pay1]
  rfl

/-- The product contracts the basis with the dequantised matrix. -/
theorem ref5 : k0_pay2 (F := Ideal) C D X Y = fun i : S160x1536.Idx => wv C D Y X (i 0) (i 1) := by
  funext i
  idx_vars i
  show (_ : EReal) = _
  pointwise [k0_pay2, ref4]
  rfl

end Cert.ReferenceIdeal.Val
end
-- ==== Proof.PreVal.lean ====
module

public import Idealize.ShloMosaic.Lib.Pointwise
public import Idealize.ShloMosaic.Lib.ReduceAll
public import Idealize.ShloMosaic.Lib.WordArith
public import proofs.«01_k».proof.Pre_finite
public import proofs.«01_k».proof.Proof.Gen.Pre_finite

@[expose] public section

noncomputable section

namespace Cert.Pre_finite.Val

open Cert.Pre_finite Idealize.ShloMosaic

/-- A number whose absolute value is below infinity minus itself is zero. -/
theorem sub_self_of_lt (x : EReal) (h : max x (-x) < ⊤) : x - x = 0 := by
  induction x with
  | bot => simp at h
  | top => simp at h
  | coe r => rw [← EReal.coe_sub, sub_self, EReal.coe_zero]

/-- The compare with infinity, decoded. -/
theorem lt_of_cmp (x : EReal)
    (h : FloatOps.cmpf (F := Ideal) (φ := .f32) .olt (FloatOps.hostAbsf (F := Ideal) (φ := .f32) x) (FloatOps.ofBits (F := Ideal) .f32 0x7F800000#32) = 1#1) :
    max x (-x) < ⊤ := by
  have e : FloatOps.ofBits (F := Ideal) .f32 0x7F800000#32 = (⊤ : EReal) := by
    show Ideal.ofBits .f32 0x7F800000#32 = ⊤
    simp [Ideal.ofBits, Ideal.ieee]
  rw [e] at h
  have h' : BitVec.ofBool (decide (max x (-x) < ⊤)) = 1#1 := h
  by_contra hn
  rw [decide_eq_false hn] at h'
  exact absurd h' (by decide)

variable [Facts] (a0 : IVec S1536x245760 8) (a1 : FVec Ideal S48x245760 .f32) (a2 : FVec Ideal S160x245760 .f32) (a3 : FVec Ideal S160x160 .f32)

/-- What the predicate says of the two arrays it reads. -/
theorem of_fn (h : fn (F := Ideal) a0 a1 a2 a3 = fun _ => 1#1) :
    (∀ i, (show EReal from a2 i) - (show EReal from a2 i) = 0) ∧ (∀ i, (show EReal from a3 i) - (show EReal from a3 i) = 0) := by
  have h1 := congrFun h (fun a => a.elim0)
  dsimp only [fn] at h1
  have : Subsingleton S_.Idx := ⟨fun a b => funext fun i => i.elim0⟩
  obtain ⟨h2, h3⟩ : _ ∧ _ := IntOp.andi_eq_one.mp h1
  exact ⟨fun i => sub_self_of_lt _ (lt_of_cmp _ (Host.reduce_andi_all _ _ _ _ _ h2 i)),
    fun i => sub_self_of_lt _ (lt_of_cmp _ (Host.reduce_andi_all _ _ _ _ _ h3 i))⟩

end Cert.Pre_finite.Val
end
-- ==== Proof.YBody.lean ====
module

public import proofs.«01_k».proof.Proof.WBody
public import proofs.«01_k».proof.Proof.Gen.KernelYIdeal.Frame

@[expose] public section

set_option maxRecDepth 16384

noncomputable section

namespace Cert.KernelYIdeal.Val

open Cert.KernelYIdeal Cert.KernelYIdeal.Gen Idealize.ShloMosaic Idealize.ShloMosaic.TcCoe Idealize.SL.Sem
open Cert.KernelIdeal.Val (deq deq_apply rct ldR rdC pc canon_hit canon_miss readCov_at readAt_at inbC inbS inbY)

/-! ## The operations of one grid point -/

/-- A tile of the sketch's factor times a dequantised tile of codes. -/
def ymul (w : Vec Ideal S160x256 .bf16) (codes : Vec Ideal S256x512 .i8) (sc : Vec Ideal S8x512 .f32) : FVec Ideal S160x512 .f32 :=
  matmul dot_S160x256_S256x512_S160x512_1_0_0_1_n_n (φ₁ := .bf16) (φ₂ := .bf16) none w (deq codes sc) (constant S160x512 .f32 0x00000000#32)

/-- The leading part of a number split in three. -/
def hi (y : FVec Ideal S160x512 .f32) : FVec Ideal S160x512 .bf16 := truncf .bf16 y bitsLt_bf16_f32
/-- What the leading part leaves. -/
def rem (y : FVec Ideal S160x512 .f32) : FVec Ideal S160x512 .f32 := subf y (extf .f32 (hi y) bitsLt_bf16_f32)
/-- The middle part. -/
def mid (y : FVec Ideal S160x512 .f32) : FVec Ideal S160x512 .bf16 := truncf .bf16 (rem y) bitsLt_bf16_f32
/-- The last part. -/
def low (y : FVec Ideal S160x512 .f32) : FVec Ideal S160x512 .bf16 :=
  truncf .bf16 (subf (rem y) (extf .f32 (mid y) bitsLt_bf16_f32)) bitsLt_bf16_f32

/-- Products of rows with rows. -/
def rows (a b : FVec Ideal S160x512 .bf16) : FVec Ideal S160x160 .f32 :=
  matmul dot_S160x512_S160x512_S160x160_1_1_0_0_n_n none a b (constant S160x160 .f32 0x00000000#32)

/-- The symmetric products of the parts. -/
def hh (y : FVec Ideal S160x512 .f32) : FVec Ideal S160x160 .f32 := addf (rows (hi y) (hi y)) (rows (mid y) (mid y))
/-- The products of the leading part with the two others. -/
def cr (y : FVec Ideal S160x512 .f32) : FVec Ideal S160x160 .f32 := addf (rows (hi y) (mid y)) (rows (hi y) (low y))

/-- One accumulation into an array of Gram size. -/
def gadd (prev : Vec Ideal S160x160 .f32) (x : FVec Ideal S160x160 .f32) : FVec Ideal S160x160 .f32 :=
  addf (shapeCast S160x160 prev shapeCasts_S160x160_S160x160) x

/-! ## What the stores of one grid point hold, as a function of the tiles loaded -/

section
variable (W : (k : ℕ) → k < 6 → Vec Ideal S160x256 .bf16) (C : (j k : ℕ) → j < 4 → k < 6 → Vec Ideal S256x512 .i8)
  (D : (j k : ℕ) → j < 4 → k < 6 → Vec Ideal S8x512 .f32)

/-- The sketch of column tile `j` after row tiles `0 … k`. -/
def yacc (j : ℕ) (hj : j < 4) : (k : ℕ) → k < 6 → FVec Ideal S160x512 .f32
  | 0, h => ymul (W 0 h) (C j 0 hj h) (D j 0 hj h)
  | k + 1, h => addf (yacc j hj k (Nat.lt_of_succ_lt h)) (ymul (W (k + 1) h) (C j (k + 1) hj h) (D j (k + 1) hj h))

/-- The sketch of column tile `j`. -/
def ytile (j : ℕ) (hj : j < 4) : FVec Ideal S160x512 .f32 := yacc W C D j hj 5 (by norm_num)

/-- The symmetric products of column tiles `0 … j`. -/
def hsum : (j : ℕ) → j < 4 → FVec Ideal S160x160 .f32
  | 0, h => hh (ytile W C D 0 h)
  | j + 1, h => addf (hsum j (Nat.lt_of_succ_lt h)) (hh (ytile W C D (j + 1) h))

/-- The other products of column tiles `0 … j`. -/
def csum : (j : ℕ) → j < 4 → FVec Ideal S160x160 .f32
  | 0, h => cr (ytile W C D 0 h)
  | j + 1, h => addf (csum j (Nat.lt_of_succ_lt h)) (cr (ytile W C D (j + 1) h))

/-- The stores of the sketch, last first. -/
def ylist : (n : ℕ) → n ≤ 4 → List (View.Piece (Elt Ideal) S160x2048 .f32)
  | 0, _ => []
  | n + 1, h => pc 0 (512 * n) 160 512 (inbY n h) (ytile W C D n h) :: ylist n (Nat.le_of_succ_le h)

theorem ylist_step (n : ℕ) (h : n + 1 ≤ 4) (L L' : List (View.Piece (Elt Ideal) S160x2048 .f32))
    (e : L' = pc 0 (512 * n) 160 512 (inbY n h) (ytile W C D n h) :: L) (hL : L = ylist W C D n (Nat.le_of_succ_le h)) :
    L' = ylist W C D (n + 1) h := by
  subst hL; exact e

end

theorem inbW' (k : ℕ) (hk : k < 6) :
    ∀ d, (![0, 256 * k] : Fin 2 → ℕ) d + (![160, 256] : Fin 2 → ℕ) d ≤ (![160, 1536] : Fin 2 → ℕ) d :=
  Fin.forall_fin_two.mpr ⟨by show 0 + 160 ≤ 160; omega, by show 256 * k + 256 ≤ 1536; omega⟩

variable (a1 : Memref sig .tc .vmem S1536x2048 .i8) (h1 : a1.IsWhole) (a2 : Memref sig .tc .vmem S48x2048 .f32) (h2 : a2.IsWhole)
  (a3 : Memref sig .tc .vmem S160x1536 .bf16) (h3 : a3.IsWhole) (a4 : Memref sig .tc .vmem S160x2048 .f32) (h4 : a4.IsWhole)
  (a5 : Memref sig .tc .vmem S160x160 .f32) (h5 : a5.IsWhole) (a6 : Memref sig .tc .vmem S160x160 .f32) (h6 : a6.IsWhole)
  (x0 : Vec Ideal S1536x2048 .i8) (x1 : Vec Ideal S48x2048 .f32) (x2 : Vec Ideal S160x1536 .bf16)
  (x4 : Vec Ideal S160x160 .f32) (x5 : Vec Ideal S160x160 .f32)

/-- The tiles loaded of the factor, the codes and the scales. -/
def tW (k : ℕ) (hk : k < 6) : Vec Ideal S160x256 .bf16 := ldR a3 h3 x2 0 (256 * k) 160 256 (inbW' k hk)
def tC (j k : ℕ) (hj : j < 4) (hk : k < 6) : Vec Ideal S256x512 .i8 := ldR a1 h1 x0 (256 * k) (512 * j) 256 512 (inbC j k hj hk)
def tD (j k : ℕ) (hj : j < 4) (hk : k < 6) : Vec Ideal S8x512 .f32 := ldR a2 h2 x1 (8 * k) (512 * j) 8 512 (inbS j k hj hk)

/-- The piece covering an array of Gram size. -/
def gp (v : FVec Ideal S160x160 .f32) : View.Piece (Elt Ideal) S160x160 .f32 := pc 0 0 160 160 inb_S160x160_S160x160_0_0 v

theorem runA_y (c : Dev nD) (i : grid0.Coords) (hc0 : cond0_0 i) :
    (kernelRun0_A (F := Ideal) c i a1 h1 a2 h2 a3 h3 a4 h4 a5 h5 a6 h6 hc0 x0 x1 x2).1
      = ylist (tW a3 h3 x2) (tC a1 h1 x0) (tD a2 h2 x1) 4 le_rfl := by
  iterate 4 refine ylist_step _ _ _ _ (by norm_num) _ _ rfl ?_
  rfl

theorem runB_y (c : Dev nD) (i : grid0.Coords) (hc0 : ¬ cond0_0 i) :
    (kernelRun0_B (F := Ideal) c i a1 h1 a2 h2 a3 h3 a4 h4 a5 h5 a6 h6 hc0 x0 x1 x2 x4 x5).1
      = ylist (tW a3 h3 x2) (tC a1 h1 x0) (tD a2 h2 x1) 4 le_rfl := by
  iterate 4 refine ylist_step _ _ _ _ (by norm_num) _ _ rfl ?_
  rfl

theorem runA_g (c : Dev nD) (i : grid0.Coords) (hc0 : cond0_0 i) :
    (kernelRun0_A (F := Ideal) c i a1 h1 a2 h2 a3 h3 a4 h4 a5 h5 a6 h6 hc0 x0 x1 x2).2.1
      = [gp (gadd (rdC a5.view [gp k0_pay1] 0 0 160 160 inb_S160x160_S160x160_0_0) (hsum (tW a3 h3 x2) (tC a1 h1 x0) (tD a2 h2 x1) 3 (by norm_num))), gp k0_pay1] := by
  rfl

theorem runA_c (c : Dev nD) (i : grid0.Coords) (hc0 : cond0_0 i) :
    (kernelRun0_A (F := Ideal) c i a1 h1 a2 h2 a3 h3 a4 h4 a5 h5 a6 h6 hc0 x0 x1 x2).2.2.1
      = [gp (gadd (rdC a6.view [gp k0_pay2] 0 0 160 160 inb_S160x160_S160x160_0_0) (csum (tW a3 h3 x2) (tC a1 h1 x0) (tD a2 h2 x1) 3 (by norm_num))), gp k0_pay2] := by
  rfl

theorem runB_g (c : Dev nD) (i : grid0.Coords) (hc0 : ¬ cond0_0 i) :
    (kernelRun0_B (F := Ideal) c i a1 h1 a2 h2 a3 h3 a4 h4 a5 h5 a6 h6 hc0 x0 x1 x2 x4 x5).2.1
      = [gp (gadd (ldR a5 h5 x4 0 0 160 160 inb_S160x160_S160x160_0_0) (hsum (tW a3 h3 x2) (tC a1 h1 x0) (tD a2 h2 x1) 3 (by norm_num)))] := by
  rfl

theorem runB_c (c : Dev nD) (i : grid0.Coords) (hc0 : ¬ cond0_0 i) :
    (kernelRun0_B (F := Ideal) c i a1 h1 a2 h2 a3 h3 a4 h4 a5 h5 a6 h6 hc0 x0 x1 x2 x4 x5).2.2.1
      = [gp (gadd (ldR a6 h6 x5 0 0 160 160 inb_S160x160_S160x160_0_0) (csum (tW a3 h3 x2) (tC a1 h1 x0) (tD a2 h2 x1) 3 (by norm_num)))] := by
  rfl

end Cert.KernelYIdeal.Val
end
-- ==== Proof.YVal.lean ====
module

public import proofs.«01_k».proof.Proof.YBody

@[expose] public section

set_option maxRecDepth 16384

noncomputable section

namespace Cert.KernelYIdeal.Val

open Cert.KernelYIdeal Cert.KernelYIdeal.Gen Idealize.ShloMosaic Idealize.ShloMosaic.TcCoe Idealize.SL.Sem
open Cert.KernelIdeal.Val (deq deq_apply rct ldR rdC pc canon_hit canon_miss readCov_at readAt_at inbC inbS inbY)

/-! ## The operations, entry by entry -/

theorem ymul_apply (w : Vec Ideal S160x256 .bf16) (codes : Vec Ideal S256x512 .i8) (sc : Vec Ideal S8x512 .f32) (r : Fin 160) (l : Fin 512) :
    ymul w codes sc (ix2 r l)
      = ∑ n : Fin 256, w (ix2 r n) * ((((codes (ix2 n l)).toInt : ℝ) : EReal) * sc (ix2 ⟨n.val / 32, by omega⟩ l)) := by
  have e : ymul w codes sc (ix2 r l) = ∑ n : Fin 256, w (ix2 r n) * deq codes sc (ix2 n l) := by pointwise [ymul]
  rw [e]
  exact Finset.sum_congr rfl fun n _ => by rw [deq_apply]

theorem rows_apply (a b : FVec Ideal S160x512 .bf16) (r r' : Fin 160) :
    rows a b (ix2 r r') = ∑ l : Fin 512, a (ix2 r l) * b (ix2 r' l) := by
  pointwise [rows]

/-- Of finite entries the symmetric products are the products themselves, -/
theorem hh_apply (y : FVec Ideal S160x512 .f32) (hy : ∀ i, y i - y i = (0 : EReal)) (r r' : Fin 160) :
    hh y (ix2 r r') = ∑ l : Fin 512, y (ix2 r l) * y (ix2 r' l) := by
  have hm : ∀ i, mid y i = (0 : EReal) := hy
  show rows (hi y) (hi y) (ix2 r r') + rows (mid y) (mid y) (ix2 r r') = (_ : EReal)
  rw [rows_apply, rows_apply, Finset.sum_eq_zero (f := fun l : Fin 512 => mid y (ix2 r l) * mid y (ix2 r' l)), add_zero]
  · rfl
  · intro l _; rw [hm]; exact zero_mul _

/-- and the other products vanish. -/
theorem cr_apply (y : FVec Ideal S160x512 .f32) (hy : ∀ i, y i - y i = (0 : EReal)) (r r' : Fin 160) :
    cr y (ix2 r r') = (0 : EReal) := by
  have hm : ∀ i, mid y i = (0 : EReal) := hy
  have hl : ∀ i, low y i = (0 : EReal) := fun i => by
    show rem y i - mid y i = (0 : EReal)
    have hr : rem y i = (0 : EReal) := hy i
    rw [hr, hm, sub_zero]
  show rows (hi y) (mid y) (ix2 r r') + rows (hi y) (low y) (ix2 r r') = (_ : EReal)
  rw [rows_apply, rows_apply, Finset.sum_eq_zero, Finset.sum_eq_zero, add_zero]
  · intro l _; rw [hl]; exact mul_zero _
  · intro l _; rw [hm]; exact mul_zero _

theorem gadd_apply (prev : Vec Ideal S160x160 .f32) (x : FVec Ideal S160x160 .f32) (r r' : Fin 160) :
    gadd prev x (ix2 r r') = (show EReal from prev (ix2 r r')) + x (ix2 r r') := by
  pointwise [gadd]

/-! ## The contents of one grid point -/

/-- Entry `(r, s)` of the sketch of a block: a row of the factor times a column of the dequantised codes. -/
def yb {N : ℕ} (w : S160x1536.Idx → EReal) (C : (⟨2, ![1536, N]⟩ : Shape).Idx → BitVec 8) (D : (⟨2, ![48, N]⟩ : Shape).Idx → EReal)
    (r : Fin 160) (s : Fin N) : EReal :=
  ∑ n : Fin 1536, w (ix2 r n) * ((((C (ix2 n s)).toInt : ℝ) : EReal) * D (ix2 ⟨n.val / 32, by omega⟩ s))

section
variable (W : (k : ℕ) → k < 6 → Vec Ideal S160x256 .bf16) (C : (j k : ℕ) → j < 4 → k < 6 → Vec Ideal S256x512 .i8)
  (D : (j k : ℕ) → j < 4 → k < 6 → Vec Ideal S8x512 .f32)
  (w : S160x1536.Idx → EReal) (cc : S1536x2048.Idx → BitVec 8) (dd : S48x2048.Idx → EReal)

/-- The tiles are those of three arrays. -/
structure Tiles : Prop where
  w : ∀ k hk r n, W k hk (ix2 r n) = w (ix2 r ⟨256 * k + n.val, by omega⟩)
  c : ∀ j k hj hk n l, C j k hj hk (ix2 n l) = cc (ix2 ⟨256 * k + n.val, by omega⟩ ⟨512 * j + l.val, by omega⟩)
  d : ∀ j k hj hk n l, D j k hj hk (ix2 n l) = dd (ix2 ⟨8 * k + n.val, by omega⟩ ⟨512 * j + l.val, by omega⟩)

variable {W C D w cc dd} (hT : Tiles W C D w cc dd)
include hT

/-- One row tile's part of the sketch. -/
theorem ymul_tile (j k : ℕ) (hj : j < 4) (hk : k < 6) (r : Fin 160) (l : Fin 512) :
    ymul (W k hk) (C j k hj hk) (D j k hj hk) (ix2 r l)
      = ∑ n : Fin 256, w (ix2 r ⟨k * 256 + n.val, by omega⟩) * ((((cc (ix2 ⟨k * 256 + n.val, by omega⟩ ⟨512 * j + l.val, by omega⟩)).toInt : ℝ) : EReal)
          * dd (ix2 ⟨(k * 256 + n.val) / 32, by omega⟩ ⟨512 * j + l.val, by omega⟩)) := by
  rw [ymul_apply]
  refine Finset.sum_congr rfl fun n _ => ?_
  rw [hT.w, hT.c, hT.d]
  have e1 : (⟨256 * k + n.val, by omega⟩ : Fin 1536) = ⟨k * 256 + n.val, by omega⟩ := Fin.ext (by simp only []; omega)
  have e2 : (⟨8 * k + n.val / 32, by omega⟩ : Fin 48) = ⟨(k * 256 + n.val) / 32, by omega⟩ := Fin.ext (by simp only []; omega)
  rw [e1, e2]

theorem ytile_apply (j : ℕ) (hj : j < 4) (r : Fin 160) (l : Fin 512) :
    ytile W C D j hj (ix2 r l) = yb w cc dd r ⟨512 * j + l.val, by omega⟩ := by
  unfold yb
  rw [Fin.sum_univ_tiles 6 256 rfl, Fin.sum_univ_six]
  exact congrArg₂ (· + ·) (congrArg₂ (· + ·) (congrArg₂ (· + ·) (congrArg₂ (· + ·) (congrArg₂ (· + ·)
    (ymul_tile hT j 0 hj _ r l) (ymul_tile hT j 1 hj _ r l)) (ymul_tile hT j 2 hj _ r l)) (ymul_tile hT j 3 hj _ r l))
    (ymul_tile hT j 4 hj _ r l)) (ymul_tile hT j 5 hj _ r l)

/-- The stores of the sketch leave the sketch. -/
theorem ylist_val (r : Fin 160) (s : Fin 2048) : ∀ (n : ℕ) (hn : n ≤ 4), s.val < 512 * n →
    View.canon (ylist W C D n hn) (ix2 r s) = yb w cc dd r s
  | 0, _, h => absurd h (by omega)
  | n + 1, hn, h => by
    by_cases hs : 512 * n ≤ s.val
    · refine (canon_hit (inbY n hn) _ _ r s r ⟨s.val - 512 * n, by omega⟩ (by simp) (by simp only []; omega)).trans ?_
      rw [ytile_apply hT]
      congr 1
      exact Fin.ext (by simp only []; omega)
    · refine (canon_miss (inbY n hn) _ _ r s (by omega)).trans (ylist_val r s n _ (by omega))

variable (hy : ∀ r s, yb w cc dd r s - yb w cc dd r s = 0)
include hy

theorem hh_tile (j : ℕ) (hj : j < 4) (r r' : Fin 160) : hh (ytile W C D j hj) (ix2 r r')
    = ∑ l : Fin 512, yb w cc dd r ⟨j * 512 + l.val, by omega⟩ * yb w cc dd r' ⟨j * 512 + l.val, by omega⟩ := by
  rw [hh_apply _ (fun i => by idx_vars i; rw [ytile_apply hT]; exact hy _ _)]
  refine Finset.sum_congr rfl fun l _ => ?_
  rw [ytile_apply hT, ytile_apply hT]
  have e1 : (⟨512 * j + l.val, by omega⟩ : Fin 2048) = ⟨j * 512 + l.val, by omega⟩ := Fin.ext (by simp only []; omega)
  rw [e1]

theorem cr_tile (j : ℕ) (hj : j < 4) (r r' : Fin 160) : cr (ytile W C D j hj) (ix2 r r') = (0 : EReal) :=
  cr_apply _ (fun i => by idx_vars i; rw [ytile_apply hT]; exact hy _ _) r r'

/-- The symmetric products of the whole block. -/
theorem hsum_val (r r' : Fin 160) : hsum W C D 3 (by norm_num) (ix2 r r')
    = ∑ s : Fin 2048, yb w cc dd r s * yb w cc dd r' s := by
  rw [Fin.sum_univ_tiles 4 512 rfl, Fin.sum_univ_four]
  exact congrArg₂ (· + ·) (congrArg₂ (· + ·) (congrArg₂ (· + ·)
    (hh_tile hT hy 0 _ r r') (hh_tile hT hy 1 _ r r')) (hh_tile hT hy 2 _ r r')) (hh_tile hT hy 3 _ r r')

/-- The other products of the whole block. -/
theorem csum_val (r r' : Fin 160) : csum W C D 3 (by norm_num) (ix2 r r') = (0 : EReal) :=
  (congrArg₂ (· + ·) (congrArg₂ (· + ·) (congrArg₂ (· + ·)
    (cr_tile hT hy 0 _ r r') (cr_tile hT hy 1 _ r r')) (cr_tile hT hy 2 _ r r')) (cr_tile hT hy 3 _ r r')).trans (by simp)

end

end Cert.KernelYIdeal.Val
end
-- ==== Proof.YOut.lean ====
module

public import proofs.«01_k».proof.Proof.YVal

@[expose] public section

set_option maxRecDepth 16384

noncomputable section

namespace Cert.KernelYIdeal.Val

open Cert.KernelYIdeal Cert.KernelYIdeal.Gen Idealize.ShloMosaic Idealize.ShloMosaic.TcCoe Idealize.SL.Sem
open Cert.KernelIdeal.Val (deq deq_apply rct ldR rdC pc canon_hit canon_miss readCov_at readAt_at inbC inbS inbY)

/-! ## What the three result blocks of a grid point hold -/

/-- The array of Gram size after its one covering store. -/
theorem gp_at (v : FVec Ideal S160x160 .f32) (L : List (View.Piece (Elt Ideal) S160x160 .f32)) (r r' : Fin 160) :
    View.canon (gp v :: L) (ix2 r r') = v (ix2 r r') :=
  canon_hit _ _ _ r r' r r' (by omega) (by omega)

theorem pay1_at (r r' : Fin 160) : k0_pay1 (F := Ideal) (ix2 r r') = (0 : EReal) := by
  pointwise [k0_pay1]
theorem pay2_at (r r' : Fin 160) : k0_pay2 (F := Ideal) (ix2 r r') = (0 : EReal) := by
  pointwise [k0_pay2]

variable (a1 : Memref sig .tc .vmem S1536x2048 .i8) (h1 : a1.IsWhole) (a2 : Memref sig .tc .vmem S48x2048 .f32) (h2 : a2.IsWhole)
  (a3 : Memref sig .tc .vmem S160x1536 .bf16) (h3 : a3.IsWhole) (a4 : Memref sig .tc .vmem S160x2048 .f32) (h4 : a4.IsWhole)
  (a5 : Memref sig .tc .vmem S160x160 .f32) (h5 : a5.IsWhole) (a6 : Memref sig .tc .vmem S160x160 .f32) (h6 : a6.IsWhole)
  (x0 : Vec Ideal S1536x2048 .i8) (x1 : Vec Ideal S48x2048 .f32) (x2 : Vec Ideal S160x1536 .bf16)
  (x4 : Vec Ideal S160x160 .f32) (x5 : Vec Ideal S160x160 .f32)

/-- The tiles loaded are those of the three blocks. -/
theorem tiles : Tiles (tW a3 h3 x2) (tC a1 h1 x0) (tD a2 h2 x1) x2 x0 x1 where
  w k hk r n := readAt_at a3 h3 _ x2 r _ r n (by omega) rfl
  c j k hj hk n l := readAt_at a1 h1 _ x0 _ _ n l rfl rfl
  d j k hj hk n l := readAt_at a2 h2 _ x1 _ _ n l rfl rfl

variable (c : Dev nD) (i : grid0.Coords)

theorem outA3_val (hc0 : cond0_0 i) (r : Fin 160) (s : Fin 2048) :
    out0_A_3 (F := Ideal) c i a1 h1 a2 h2 a3 h3 a4 h4 a5 h5 a6 h6 hc0 x0 x1 x2 (ix2 r s) = yb x2 x0 x1 r s :=
  ((congrFun (View.read_writes_junk_eq_canon _ _) _).trans (congrFun (congrArg View.canon (runA_y a1 h1 a2 h2 a3 h3 a4 h4 a5 h5 a6 h6 x0 x1 x2 c i hc0)) _)).trans
    (ylist_val (tiles a1 h1 a2 h2 a3 h3 x0 x1 x2) r s 4 le_rfl s.isLt)

theorem outB3_val (hc0 : ¬ cond0_0 i) (r : Fin 160) (s : Fin 2048) :
    out0_B_3 (F := Ideal) c i a1 h1 a2 h2 a3 h3 a4 h4 a5 h5 a6 h6 hc0 x0 x1 x2 x4 x5 (ix2 r s) = yb x2 x0 x1 r s :=
  ((congrFun (View.read_writes_junk_eq_canon _ _) _).trans (congrFun (congrArg View.canon (runB_y a1 h1 a2 h2 a3 h3 a4 h4 a5 h5 a6 h6 x0 x1 x2 x4 x5 c i hc0)) _)).trans
    (ylist_val (tiles a1 h1 a2 h2 a3 h3 x0 x1 x2) r s 4 le_rfl s.isLt)

variable (hy : ∀ r s, yb x2 x0 x1 r s - yb x2 x0 x1 r s = 0)
include hy

theorem outA4_val (hc0 : cond0_0 i) (r r' : Fin 160) :
    out0_A_4 (F := Ideal) c i a1 h1 a2 h2 a3 h3 a4 h4 a5 h5 a6 h6 hc0 x0 x1 x2 (ix2 r r')
      = 0 + ∑ s : Fin 2048, yb x2 x0 x1 r s * yb x2 x0 x1 r' s := by
  refine ((congrFun (View.read_writes_junk_eq_canon _ _) _).trans (congrFun (congrArg View.canon (runA_g a1 h1 a2 h2 a3 h3 a4 h4 a5 h5 a6 h6 x0 x1 x2 c i hc0)) _)).trans ?_
  rw [gp_at, gadd_apply, hsum_val (tiles a1 h1 a2 h2 a3 h3 x0 x1 x2) hy]
  exact congrArg (· + _) (((readCov_at _ _ _ r r' r r' (by omega) (by omega)).trans (gp_at _ _ _ _)).trans (pay1_at r r'))

theorem outB4_val (hc0 : ¬ cond0_0 i) (r r' : Fin 160) :
    out0_B_4 (F := Ideal) c i a1 h1 a2 h2 a3 h3 a4 h4 a5 h5 a6 h6 hc0 x0 x1 x2 x4 x5 (ix2 r r')
      = (show EReal from x4 (ix2 r r')) + ∑ s : Fin 2048, yb x2 x0 x1 r s * yb x2 x0 x1 r' s := by
  refine ((congrFun (View.read_writes_junk_eq_canon _ _) _).trans (congrFun (congrArg View.canon (runB_g a1 h1 a2 h2 a3 h3 a4 h4 a5 h5 a6 h6 x0 x1 x2 x4 x5 c i hc0)) _)).trans ?_
  rw [gp_at, gadd_apply, hsum_val (tiles a1 h1 a2 h2 a3 h3 x0 x1 x2) hy]
  exact congrArg (· + _) (readAt_at a5 h5 _ x4 r r' r r' (by omega) (by omega))

theorem outA5_val (hc0 : cond0_0 i) (r r' : Fin 160) :
    out0_A_5 (F := Ideal) c i a1 h1 a2 h2 a3 h3 a4 h4 a5 h5 a6 h6 hc0 x0 x1 x2 (ix2 r r') = (0 : EReal) := by
  refine ((congrFun (View.read_writes_junk_eq_canon _ _) _).trans (congrFun (congrArg View.canon (runA_c a1 h1 a2 h2 a3 h3 a4 h4 a5 h5 a6 h6 x0 x1 x2 c i hc0)) _)).trans ?_
  rw [gp_at, gadd_apply, csum_val (tiles a1 h1 a2 h2 a3 h3 x0 x1 x2) hy, add_zero]
  exact ((readCov_at _ _ _ r r' r r' (by omega) (by omega)).trans (gp_at _ _ _ _)).trans (pay2_at r r')

theorem outB5_val (hc0 : ¬ cond0_0 i) (r r' : Fin 160) :
    out0_B_5 (F := Ideal) c i a1 h1 a2 h2 a3 h3 a4 h4 a5 h5 a6 h6 hc0 x0 x1 x2 x4 x5 (ix2 r r') = (show EReal from x5 (ix2 r r')) := by
  refine ((congrFun (View.read_writes_junk_eq_canon _ _) _).trans (congrFun (congrArg View.canon (runB_c a1 h1 a2 h2 a3 h3 a4 h4 a5 h5 a6 h6 x0 x1 x2 x4 x5 c i hc0)) _)).trans ?_
  rw [gp_at, gadd_apply, csum_val (tiles a1 h1 a2 h2 a3 h3 x0 x1 x2) hy, add_zero]
  exact readAt_at a6 h6 _ x5 r r' r r' (by omega) (by omega)

end Cert.KernelYIdeal.Val
end
-- ==== Proof.YFin.lean ====
module

public import proofs.«01_k».proof.Proof.YOut
public import proofs.«01_k».proof.Proof.Gen.KernelYIdeal.Value

@[expose] public section

set_option maxRecDepth 16384

noncomputable section

namespace Cert.KernelYIdeal.Val

open Cert.KernelYIdeal Cert.KernelYIdeal.Gen Idealize.ShloMosaic Idealize.ShloMosaic.TcCoe Idealize.SL.Sem

/-! ## The three results of the whole grid -/

theorem idx : ∀ t : Fin cfg0.N, win0_0.index t = ![0, t.val] ∧ win0_1.index t = ![0, t.val] ∧ win0_2.index t = ![0, 0]
    ∧ win0_3.index t = ![0, t.val] ∧ win0_4.index t = ![0, 0] ∧ win0_5.index t = ![0, 0] :=
  (by decide +kernel : ∀ t : Fin grid0.N, _)

variable (m : (ℓ : Loc nD τ sig) → Buf (Elt Ideal) ℓ) (c : Dev nD)

theorem iblk0 (t : Fin cfg0.N) (a : Fin 1536) (b : Fin 2048) (s : Fin 245760) (hs : s.val = t.val * 2048 + b.val) :
    (show Vec Ideal S1536x2048 .i8 from iblk m c 0 t) (ix2 a b) = m ((c : Thread nD τ).loc main_arg0) (ix2 a s) := by
  blk_point [iblk, V, idx t]
theorem iblk1 (t : Fin cfg0.N) (a : Fin 48) (b : Fin 2048) (s : Fin 245760) (hs : s.val = t.val * 2048 + b.val) :
    (show Vec Ideal S48x2048 .f32 from iblk m c 1 t) (ix2 a b) = m ((c : Thread nD τ).loc main_arg1) (ix2 a s) := by
  blk_point [iblk, V, idx t]
theorem iblk2 (t : Fin cfg0.N) (a : Fin 160) (b : Fin 1536) :
    (show Vec Ideal S160x1536 .bf16 from iblk m c 2 t) (ix2 a b) = m ((c : Thread nD τ).loc main_arg2) (ix2 a b) := by
  blk_point [iblk, V, idx t]

/-- Entry `(r, s)` of the sketch. -/
def yv (r : Fin 160) (s : Fin 245760) : EReal :=
  yb (m ((c : Thread nD τ).loc main_arg2)) (m ((c : Thread nD τ).loc main_arg0)) (m ((c : Thread nD τ).loc main_arg1)) r s

/-- One point's block of it. -/
def yt (t : Fin cfg0.N) (r : Fin 160) (b : Fin 2048) : EReal :=
  yb (N := 2048) (iblk m c 2 t) (iblk m c 0 t) (iblk m c 1 t) r b

theorem yt_eq (t : Fin cfg0.N) (r : Fin 160) (b : Fin 2048) (s : Fin 245760) (hs : s.val = t.val * 2048 + b.val) :
    yt m c t r b = yv m c r s := by
  unfold yt yv yb
  exact Finset.sum_congr rfl fun n _ => congrArg₂ (· * ·) (iblk2 m c t r n)
    (congrArg₂ (· * ·) (congrArg (fun z : BitVec 8 => ((z.toInt : ℝ) : EReal)) (iblk0 m c t n b s hs)) (iblk1 m c t ⟨n.val / 32, by omega⟩ b s hs))

variable {m c} (hf : ∀ r s, yv m c r s - yv m c r s = 0)

/-- What a point leaves in the block of the sketch. -/
theorem out3_at (t : Fin cfg0.N) (r : Fin 160) (b : Fin 2048) :
    (outsAt0 m c t.val t.isLt).1 (ix2 r b) = yt m c t r b := by
  by_cases h : t.val % 120 = 0
  · have e := outA3_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) c (grid0.coords t) ((hcond0_0 t).mpr h) r b
    rw [outsAt0_A m c t h]
    dsimp only
    exact e
  · have e := outB3_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (outsAt0 m c (t.val - 1) (Nat.lt_of_le_of_lt (Nat.sub_le _ _) t.isLt)).2.1
        (outsAt0 m c (t.val - 1) (Nat.lt_of_le_of_lt (Nat.sub_le _ _) t.isLt)).2.2 c (grid0.coords t) (fun h' => h ((hcond0_0 t).mp h')) r b
    rw [outsAt0_B m c t h]
    dsimp only
    exact e

/-- The sketch, transposed. -/
theorem final3 : (dats m 0 c).arrAt 3 (cfgs 0).N = fun i : S160x245760.Idx => yv m c (i 0) (i 1) := by
  refine (dats m 0 c).arrAt_eq_of_covers 3 _ (by decide +kernel) fun t ht y => ?_
  blk_simp
  rw [after0_3]
  idx_vars y
  refine ((out3_at t y0 y1).trans (yt_eq m c t y0 y1 ⟨t.val * 2048 + y1.val, by have := Nat.lt_of_lt_of_eq t.isLt N_0; omega⟩ rfl)).trans
    (congrArg₂ (yv m c) (Fin.ext ?_) (Fin.ext ?_))
  · simp [idx t]
  · simp [idx t]

include hf

theorem fint (t : Fin cfg0.N) (r : Fin 160) (b : Fin 2048) : yt m c t r b - yt m c t r b = 0 := by
  rw [yt_eq m c t r b ⟨t.val * 2048 + b.val, by have := Nat.lt_of_lt_of_eq t.isLt N_0; omega⟩ rfl]
  exact hf _ _

/-- One point's addend to the products of the sketch with itself. -/
def term (m : (ℓ : Loc nD τ sig) → Buf (Elt Ideal) ℓ) (c : Dev nD) (t : Fin cfg0.N) (j : S160x160.Idx) : EReal :=
  ∑ s : Fin 2048, yt m c t (j 0) s * yt m c t (j 1) s

theorem step0 (t : Fin cfg0.N) (h : t.val % 120 = 0) (j : S160x160.Idx) :
    (outsAt0 m c t.val t.isLt).2.1 j = (0 : EReal) + term m c t j := by
  idx_vars j
  exact (congrFun (congrArg (fun p => p.2.1) (outsAt0_A m c t h)) (ix2 j0 j1)).trans
    (outA4_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) c (grid0.coords t) (fint hf t) ((hcond0_0 t).mpr h) j0 j1)

theorem step1 (t : Fin cfg0.N) (h : ¬ t.val % 120 = 0) (j : S160x160.Idx) :
    (outsAt0 m c t.val t.isLt).2.1 j
      = (show EReal from (outsAt0 m c (t.val - 1) (Nat.lt_of_le_of_lt (Nat.sub_le _ _) t.isLt)).2.1 j) + term m c t j := by
  idx_vars j
  exact (congrFun (congrArg (fun p => p.2.1) (outsAt0_B m c t h)) (ix2 j0 j1)).trans
    (outB4_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (outsAt0 m c (t.val - 1) (Nat.lt_of_le_of_lt (Nat.sub_le _ _) t.isLt)).2.1
        (outsAt0 m c (t.val - 1) (Nat.lt_of_le_of_lt (Nat.sub_le _ _) t.isLt)).2.2 c (grid0.coords t) (fint hf t) (fun h' => h ((hcond0_0 t).mp h')) j0 j1)

theorem zero0 (t : Fin cfg0.N) (h : t.val % 120 = 0) (j : S160x160.Idx) :
    (outsAt0 m c t.val t.isLt).2.2 j = (0 : EReal) + 0 := by
  idx_vars j
  rw [add_zero]
  exact (congrFun (congrArg (fun p => p.2.2) (outsAt0_A m c t h)) (ix2 j0 j1)).trans
    (outA5_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) c (grid0.coords t) (fint hf t) ((hcond0_0 t).mpr h) j0 j1)

theorem zero1 (t : Fin cfg0.N) (h : ¬ t.val % 120 = 0) (j : S160x160.Idx) :
    (outsAt0 m c t.val t.isLt).2.2 j
      = (show EReal from (outsAt0 m c (t.val - 1) (Nat.lt_of_le_of_lt (Nat.sub_le _ _) t.isLt)).2.2 j) + 0 := by
  idx_vars j
  rw [add_zero]
  exact (congrFun (congrArg (fun p => p.2.2) (outsAt0_B m c t h)) (ix2 j0 j1)).trans
    (outB5_val (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (outsAt0 m c (t.val - 1) (Nat.lt_of_le_of_lt (Nat.sub_le _ _) t.isLt)).2.1
        (outsAt0 m c (t.val - 1) (Nat.lt_of_le_of_lt (Nat.sub_le _ _) t.isLt)).2.2 c (grid0.coords t) (fint hf t) (fun h' => h ((hcond0_0 t).mp h')) j0 j1)

/-- The last point leaves all products. -/
theorem out4_last (t : Fin cfg0.N) (ht : t.val + 1 = cfg0.N) (j : S160x160.Idx) :
    (outsAt0 m c t.val t.isLt).2.1 j = ∑ s : Fin 245760, yv m c (j 0) s * yv m c (j 1) s := by
  refine (Pipeline.eq_sum_fin_of_reset_step_apply_last (M := EReal) (fun n h => (outsAt0 m c n h).2.1) 120 (fun _ => 0)
    (term m c) (step0 hf) (step1 hf) (le_of_eq N_0) t ht j).trans ?_
  rw [zero_add]
  refine Eq.trans ?_ (Fin.sum_univ_tiles cfg0.N 2048 (by rw [show cfg0.N = 120 from N_0])
    (fun s : Fin 245760 => yv m c (j 0) s * yv m c (j 1) s)).symm
  refine Finset.sum_congr rfl fun p _ => ?_
  unfold term
  refine Finset.sum_congr rfl fun s _ => ?_
  exact congrArg₂ (· * ·) (yt_eq m c p (j 0) s _ rfl) (yt_eq m c p (j 1) s _ rfl)

theorem out5_last (t : Fin cfg0.N) (ht : t.val + 1 = cfg0.N) (j : S160x160.Idx) :
    (outsAt0 m c t.val t.isLt).2.2 j = (0 : EReal) := by
  refine (Pipeline.eq_sum_fin_of_reset_step_apply_last (M := EReal) (fun n h => (outsAt0 m c n h).2.2) 120 (fun _ => 0)
    (fun _ _ => 0) (zero0 hf) (zero1 hf) (le_of_eq N_0) t ht j).trans ?_
  rw [zero_add]
  exact Finset.sum_const_zero

/-- The last point of the grid. -/
def lastPt : Fin cfg0.N := ⟨119, by rw [show cfg0.N = 120 from N_0]; omega⟩

/-- The products of the sketch with itself. -/
theorem final4 : (dats m 0 c).arrAt 4 (cfgs 0).N = fun i : S160x160.Idx => ∑ s : Fin 245760, yv m c (i 0) s * yv m c (i 1) s := by
  refine (dats m 0 c).arrAt_eq_of_after_last 4 lastPt (by decide +kernel) _ fun j => ?_
  blk_simp
  rw [after0_4]
  exact out4_last hf lastPt N_0.symm _

/-- The remaining products. -/
theorem final5 : (dats m 0 c).arrAt 5 (cfgs 0).N = fun _ : S160x160.Idx => (0 : EReal) := by
  refine (dats m 0 c).arrAt_eq_of_after_last 5 lastPt (by decide +kernel) _ fun j => ?_
  blk_simp
  rw [after0_5]
  exact out5_last hf lastPt N_0.symm _

end Cert.KernelYIdeal.Val
end
-- ==== Proof.FBody.lean ====
module

public import proofs.«01_k».proof.Proof.YVal
public import proofs.«01_k».proof.Proof.Gen.KernelFIdeal.Frame

@[expose] public section

set_option maxRecDepth 16384

noncomputable section

namespace Cert.KernelFIdeal.Val

open Cert.KernelFIdeal Cert.KernelFIdeal.Gen Idealize.ShloMosaic Idealize.ShloMosaic.TcCoe Idealize.SL.Sem
open Cert.KernelIdeal.Val (rct ldR rdC pc canon_hit canon_miss readCov_at readAt_at inbC inbS inbY)
open Cert.KernelYIdeal.Val (yb ytile hsum csum ylist inbW' gp gadd gadd_apply)

/-! ## The stores of one grid point that transposes its codes first -/

theorem inbN (j : ℕ) (hj : j < 8) :
    ∀ d, (![0, 256 * j, 0] : Fin 3 → ℕ) d + (![1, 256, 1536] : Fin 3 → ℕ) d ≤ (![1, 2048, 1536] : Fin 3 → ℕ) d :=
  Fin.forall_fin_succ.mpr ⟨by show 0 + 1 ≤ 1; omega, Fin.forall_fin_two.mpr ⟨by show 256 * j + 256 ≤ 2048; omega, by show 0 + 1536 ≤ 1536; omega⟩⟩
theorem inbT (j : ℕ) (hj : j < 8) :
    ∀ d, (![0, 256 * j] : Fin 2 → ℕ) d + (![1536, 256] : Fin 2 → ℕ) d ≤ (![1536, 2048] : Fin 2 → ℕ) d :=
  Fin.forall_fin_two.mpr ⟨by show 0 + 1536 ≤ 1536; omega, by show 256 * j + 256 ≤ 2048; omega⟩

variable (a1 : Memref sig .tc .vmem S1x2048x1536 .i8) (h1 : a1.IsWhole) (a2 : Memref sig .tc .vmem S48x2048 .f32) (h2 : a2.IsWhole)
  (a3 : Memref sig .tc .vmem S160x1536 .bf16) (h3 : a3.IsWhole) (a4 : Memref sig .tc .vmem S1536x2048 .i8) (h4 : a4.IsWhole)
  (a5 : Memref sig .tc .vmem S160x2048 .f32) (h5 : a5.IsWhole)
  (a6 : Memref sig .tc .vmem S160x160 .f32) (h6 : a6.IsWhole) (a7 : Memref sig .tc .vmem S160x160 .f32) (h7 : a7.IsWhole)
  (x0 : Vec Ideal S1x2048x1536 .i8) (x1 : Vec Ideal S48x2048 .f32) (x2 : Vec Ideal S160x1536 .bf16)
  (x5 : Vec Ideal S160x160 .f32) (x6 : Vec Ideal S160x160 .f32)

/-- The rows of codes loaded for transpose `j`. -/
def ldN (j : ℕ) (hj : j < 8) : Vec Ideal S1x256x1536 .i8 :=
  View.readAt (Elt Ideal) a1.view (Rect.unit (s := S1x2048x1536) ![0, 256 * j, 0] ![1, 256, 1536] (inbN j hj)).toLoadRect (h1.unread x0)

/-- The stores of the transposed codes, last first. -/
def alist : (n : ℕ) → n ≤ 8 → List (View.Piece (Elt Ideal) S1536x2048 .i8)
  | 0, _ => []
  | n + 1, h => pc 0 (256 * n) 1536 256 (inbT n h) (k0_pay2 (F := Ideal) (ldN a1 h1 x0 n h)) :: alist n (Nat.le_of_succ_le h)

theorem alist_step (n : ℕ) (h : n + 1 ≤ 8) (L L' : List (View.Piece (Elt Ideal) S1536x2048 .i8))
    (e : L' = pc 0 (256 * n) 1536 256 (inbT n h) (k0_pay2 (F := Ideal) (ldN a1 h1 x0 n h)) :: L) (hL : L = alist a1 h1 x0 n (Nat.le_of_succ_le h)) :
    L' = alist a1 h1 x0 (n + 1) h := by
  subst hL; exact e

/-- The tiles loaded of the factor, the transposed codes and the scales. -/
def tW (k : ℕ) (hk : k < 6) : Vec Ideal S160x256 .bf16 := ldR a3 h3 x2 0 (256 * k) 160 256 (inbW' k hk)
def tC (j k : ℕ) (hj : j < 4) (hk : k < 6) : Vec Ideal S256x512 .i8 :=
  k0_pay10 (F := Ideal) (rdC a4.view (alist a1 h1 x0 8 le_rfl) (256 * k) (512 * j) 256 512 (inbC j k hj hk))
def tD (j k : ℕ) (hj : j < 4) (hk : k < 6) : Vec Ideal S8x512 .f32 := ldR a2 h2 x1 (8 * k) (512 * j) 8 512 (inbS j k hj hk)

/-- The array of Gram size that holds nothing yet. -/
def zz : FVec Ideal S160x160 .f32 := broadcast S160x160 (Scalar.ofBits (F := Ideal) .f32 0x00000000#32)

variable (c : Dev nD) (i : grid0.Coords)

theorem runA_a (hc0 : cond0_0 i) :
    (kernelRun0_A (F := Ideal) c i a1 h1 a2 h2 a3 h3 a4 h4 a5 h5 a6 h6 a7 h7 hc0 x0 x1 x2).1 = alist a1 h1 x0 8 le_rfl := by
  iterate 8 refine alist_step _ _ _ _ (by norm_num) _ _ rfl ?_
  rfl

theorem runB_a (hc0 : ¬ cond0_0 i) :
    (kernelRun0_B (F := Ideal) c i a1 h1 a2 h2 a3 h3 a4 h4 a5 h5 a6 h6 a7 h7 hc0 x0 x1 x2 x5 x6).1 = alist a1 h1 x0 8 le_rfl := by
  iterate 8 refine alist_step _ _ _ _ (by norm_num) _ _ rfl ?_
  rfl

theorem runA_y (hc0 : cond0_0 i) :
    (kernelRun0_A (F := Ideal) c i a1 h1 a2 h2 a3 h3 a4 h4 a5 h5 a6 h6 a7 h7 hc0 x0 x1 x2).2.1
      = ylist (tW a3 h3 x2) (tC a1 h1 a4 x0) (tD a2 h2 x1) 4 le_rfl := by
  rfl

theorem runB_y (hc0 : ¬ cond0_0 i) :
    (kernelRun0_B (F := Ideal) c i a1 h1 a2 h2 a3 h3 a4 h4 a5 h5 a6 h6 a7 h7 hc0 x0 x1 x2 x5 x6).2.1
      = ylist (tW a3 h3 x2) (tC a1 h1 a4 x0) (tD a2 h2 x1) 4 le_rfl := by
  rfl

theorem runA_g (hc0 : cond0_0 i) :
    (kernelRun0_A (F := Ideal) c i a1 h1 a2 h2 a3 h3 a4 h4 a5 h5 a6 h6 a7 h7 hc0 x0 x1 x2).2.2.1
      = [gp (gadd (rdC a6.view [gp zz] 0 0 160 160 inb_S160x160_S160x160_0_0) (hsum (tW a3 h3 x2) (tC a1 h1 a4 x0) (tD a2 h2 x1) 3 (by norm_num))), gp zz] := by
  rfl

theorem runA_c (hc0 : cond0_0 i) :
    (kernelRun0_A (F := Ideal) c i a1 h1 a2 h2 a3 h3 a4 h4 a5 h5 a6 h6 a7 h7 hc0 x0 x1 x2).2.2.2.1
      = [gp (gadd (rdC a7.view [gp zz] 0 0 160 160 inb_S160x160_S160x160_0_0) (csum (tW a3 h3 x2) (tC a1 h1 a4 x0) (tD a2 h2 x1) 3 (by norm_num))), gp zz] := by
  rfl

theorem runB_g (hc0 : ¬ cond0_0 i) :
    (kernelRun0_B (F := Ideal) c i a1 h1 a2 h2 a3 h3 a4 h4 a5 h5 a6 h6 a7 h7 hc0 x0 x1 x2 x5 x6).2.2.1
      = [gp (gadd (ldR a6 h6 x5 0 0 160 160 inb_S160x160_S160x160_0_0) (hsum (tW a3 h3 x2) (tC a1 h1 a4 x0) (tD a2 h2 x1) 3 (by norm_num)))] := by
  rfl

theorem runB_c (hc0 : ¬ cond0_0 i) :
    (kernelRun0_B (F := Ideal) c i a1 h1 a2 h2 a3 h3 a4 h4 a5 h5 a6 h6 a7 h7 hc0 x0 x1 x2 x5 x6).2.2.2.1
      = [gp (gadd (ldR a7 h7 x6 0 0 160 160 inb_S160x160_S160x160_0_0) (csum (tW a3 h3 x2) (tC a1 h1 a4 x0) (tD a2 h2 x1) 3 (by norm_num)))] := by
  rfl

end Cert.KernelFIdeal.Val
end
-- ==== Proof.FOut.lean ====
module

public import proofs.«01_k».proof.Proof.FBody
public import proofs.«01_k».proof.Proof.YOut

@[expose] public section

set_option maxRecDepth 16384

noncomputable section

namespace Cert.KernelFIdeal.Val

open Cert.KernelFIdeal Cert.KernelFIdeal.Gen Idealize.ShloMosaic Idealize.ShloMosaic.TcCoe Idealize.SL.Sem
open Cert.KernelIdeal.Val (rct ldR rdC pc canon_hit canon_miss readCov_at readAt_at inbC inbS inbY)
open Cert.KernelYIdeal.Val (yb ytile hsum csum ylist inbW' gp gadd gadd_apply gp_at Tiles ylist_val hsum_val csum_val)

/-! ## What the four result blocks of a grid point hold -/

theorem zz_at (r r' : Fin 160) : zz (ix2 r r') = (0 : EReal) := by
  pointwise [zz]

theorem pay2_at (v : Vec Ideal S1x256x1536 .i8) (n : Fin 1536) (l : Fin 256) : k0_pay2 (F := Ideal) v (ix2 n l) = v (ix3 0 l n) := by
  pointwise [k0_pay2]

theorem pay10_at (v : Vec Ideal S256x512 .i8) (n : Fin 256) (l : Fin 512) : k0_pay10 (F := Ideal) v (ix2 n l) = v (ix2 n l) := by
  pointwise [k0_pay10]

variable (a1 : Memref sig .tc .vmem S1x2048x1536 .i8) (h1 : a1.IsWhole) (a2 : Memref sig .tc .vmem S48x2048 .f32) (h2 : a2.IsWhole)
  (a3 : Memref sig .tc .vmem S160x1536 .bf16) (h3 : a3.IsWhole) (a4 : Memref sig .tc .vmem S1536x2048 .i8) (h4 : a4.IsWhole)
  (a5 : Memref sig .tc .vmem S160x2048 .f32) (h5 : a5.IsWhole)
  (a6 : Memref sig .tc .vmem S160x160 .f32) (h6 : a6.IsWhole) (a7 : Memref sig .tc .vmem S160x160 .f32) (h7 : a7.IsWhole)
  (x0 : Vec Ideal S1x2048x1536 .i8) (x1 : Vec Ideal S48x2048 .f32) (x2 : Vec Ideal S160x1536 .bf16)
  (x5 : Vec Ideal S160x160 .f32) (x6 : Vec Ideal S160x160 .f32)

theorem ldN_at (j : ℕ) (hj : j < 8) (l : Fin 256) (n : Fin 1536) (s : Fin 2048) (hs : s.val = 256 * j + l.val) :
    ldN a1 h1 x0 j hj (ix3 0 l n) = x0 (ix3 0 s n) := by
  show a1.view.read (Elt Ideal) (h1.unread x0) _ = _
  rw [h1.read_unread]
  congr 1
  idx_ext <;> simp [hs]

/-- The block of codes, transposed. -/
def tb (x : Vec Ideal S1x2048x1536 .i8) : S1536x2048.Idx → BitVec 8 := fun i => x (ix3 0 (i 1) (i 0))

/-- The stores of the transposed codes leave the transposed codes. -/
theorem alist_val (n : Fin 1536) (s : Fin 2048) : ∀ (k : ℕ) (hk : k ≤ 8), s.val < 256 * k →
    View.canon (alist a1 h1 x0 k hk) (ix2 n s) = tb x0 (ix2 n s)
  | 0, _, h => absurd h (by omega)
  | k + 1, hk, h => by
    by_cases hs : 256 * k ≤ s.val
    · refine (canon_hit (inbT k hk) _ _ n s n ⟨s.val - 256 * k, by omega⟩ (by simp) (by simp only []; omega)).trans ?_
      exact (pay2_at _ _ _).trans (ldN_at a1 h1 x0 k hk _ n s (by simp only []; omega))
    · refine (canon_miss (inbT k hk) _ _ n s (by omega)).trans (alist_val n s k _ (by omega))

/-- The tiles loaded are those of the three blocks. -/
theorem tiles : Tiles (tW a3 h3 x2) (tC a1 h1 a4 x0) (tD a2 h2 x1) x2 (tb x0) x1 where
  w k hk r n := readAt_at a3 h3 _ x2 r _ r n (by omega) rfl
  c j k hj hk n l := ((pay10_at _ n l).trans (readCov_at _ _ _ ⟨256 * k + n.val, by omega⟩ ⟨512 * j + l.val, by omega⟩ n l rfl rfl)).trans
    (alist_val a1 h1 x0 _ _ 8 le_rfl (by simp only []; omega))
  d j k hj hk n l := readAt_at a2 h2 _ x1 _ _ n l rfl rfl

variable (c : Dev nD) (i : grid0.Coords)

theorem outA3_val (hc0 : cond0_0 i) (n : Fin 1536) (s : Fin 2048) :
    out0_A_3 (F := Ideal) c i a1 h1 a2 h2 a3 h3 a4 h4 a5 h5 a6 h6 a7 h7 hc0 x0 x1 x2 (ix2 n s) = tb x0 (ix2 n s) :=
  ((congrFun (View.read_writes_junk_eq_canon _ _) _).trans (congrFun (congrArg View.canon (runA_a a1 h1 a2 h2 a3 h3 a4 h4 a5 h5 a6 h6 a7 h7 x0 x1 x2 c i hc0)) _)).trans
    (alist_val a1 h1 x0 n s 8 le_rfl s.isLt)

theorem outB3_val (hc0 : ¬ cond0_0 i) (n : Fin 1536) (s : Fin 2048) :
    out0_B_3 (F := Ideal) c i a1 h1 a2 h2 a3 h3 a4 h4 a5 h5 a6 h6 a7 h7 hc0 x0 x1 x2 x5 x6 (ix2 n s) = tb x0 (ix2 n s) :=
  ((congrFun (View.read_writes_junk_eq_canon _ _) _).trans (congrFun (congrArg View.canon (runB_a a1 h1 a2 h2 a3 h3 a4 h4 a5 h5 a6 h6 a7 h7 x0 x1 x2 x5 x6 c i hc0)) _)).trans
    (alist_val a1 h1 x0 n s 8 le_rfl s.isLt)

theorem outA4_val (hc0 : cond0_0 i) (r : Fin 160) (s : Fin 2048) :
    out0_A_4 (F := Ideal) c i a1 h1 a2 h2 a3 h3 a4 h4 a5 h5 a6 h6 a7 h7 hc0 x0 x1 x2 (ix2 r s) = yb x2 (tb x0) x1 r s :=
  ((congrFun (View.read_writes_junk_eq_canon _ _) _).trans (congrFun (congrArg View.canon (runA_y a1 h1 a2 h2 a3 h3 a4 h4 a5 h5 a6 h6 a7 h7 x0 x1 x2 c i hc0)) _)).trans
    (ylist_val (tiles a1 h1 a2 h2 a3 h3 a4 x0 x1 x2) r s 4 le_rfl s.isLt)

theorem outB4_val (hc0 : ¬ cond0_0 i) (r : Fin 160) (s : Fin 2048) :
    out0_B_4 (F := Ideal) c i a1 h1 a2 h2 a3 h3 a4 h4 a5 h5 a6 h6 a7 h7 hc0 x0 x1 x2 x5 x6 (ix2 r s) = yb x2 (tb x0) x1 r s :=
  ((congrFun (View.read_writes_junk_eq_canon _ _) _).trans (congrFun (congrArg View.canon (runB_y a1 h1 a2 h2 a3 h3 a4 h4 a5 h5 a6 h6 a7 h7 x0 x1 x2 x5 x6 c i hc0)) _)).trans
    (ylist_val (tiles a1 h1 a2 h2 a3 h3 a4 x0 x1 x2) r s 4 le_rfl s.isLt)

variable (hy : ∀ r s, yb x2 (tb x0) x1 r s - yb x2 (tb x0) x1 r s = 0)
include hy

theorem outA5_val (hc0 : cond0_0 i) (r r' : Fin 160) :
    out0_A_5 (F := Ideal) c i a1 h1 a2 h2 a3 h3 a4 h4 a5 h5 a6 h6 a7 h7 hc0 x0 x1 x2 (ix2 r r')
      = 0 + ∑ s : Fin 2048, yb x2 (tb x0) x1 r s * yb x2 (tb x0) x1 r' s := by
  refine ((congrFun (View.read_writes_junk_eq_canon _ _) _).trans (congrFun (congrArg View.canon (runA_g a1 h1 a2 h2 a3 h3 a4 h4 a5 h5 a6 h6 a7 h7 x0 x1 x2 c i hc0)) _)).trans ?_
  rw [gp_at, gadd_apply, hsum_val (tiles a1 h1 a2 h2 a3 h3 a4 x0 x1 x2) hy]
  exact congrArg (· + _) (((readCov_at _ _ _ r r' r r' (by omega) (by omega)).trans (gp_at _ _ _ _)).trans (zz_at r r'))

theorem outB5_val (hc0 : ¬ cond0_0 i) (r r' : Fin 160) :
    out0_B_5 (F := Ideal) c i a1 h1 a2 h2 a3 h3 a4 h4 a5 h5 a6 h6 a7 h7 hc0 x0 x1 x2 x5 x6 (ix2 r r')
      = (show EReal from x5 (ix2 r r')) + ∑ s : Fin 2048, yb x2 (tb x0) x1 r s * yb x2 (tb x0) x1 r' s := by
  refine ((congrFun (View.read_writes_junk_eq_canon _ _) _).trans (congrFun (congrArg View.canon (runB_g a1 h1 a2 h2 a3 h3 a4 h4 a5 h5 a6 h6 a7 h7 x0 x1 x2 x5 x6 c i hc0)) _)).trans ?_
  rw [gp_at, gadd_apply, hsum_val (tiles a1 h1 a2 h2 a3 h3 a4 x0 x1 x2) hy]
  exact congrArg (· + _) (readAt_at a6 h6 _ x5 r r' r r' (by omega) (by omega))

theorem outA6_val (hc0 : cond0_0 i) (r r' : Fin 160) :
    out0_A_6 (F := Ideal) c i a1 h1 a2 h2 a3 h3 a4 h4 a5 h5 a6 h6 a7 h7 hc0 x0 x1 x2 (ix2 r r') = (0 : EReal) := by
  refine ((congrFun (View.read_writes_junk_eq_canon _ _) _).trans (congrFun (congrArg View.canon (runA_c a1 h1 a2 h2 a3 h3 a4 h4 a5 h5 a6 h6 a7 h7 x0 x1 x2 c i hc0)) _)).trans ?_
  rw [gp_at, gadd_apply, csum_val (tiles a1 h1 a2 h2 a3 h3 a4 x0 x1 x2) hy, add_zero]
  exact ((readCov_at _ _ _ r r' r r' (by omega) (by omega)).trans (gp_at _ _ _ _)).trans (zz_at r r')

theorem outB6_val (hc0 : ¬ cond0_0 i) (r r' : Fin 160) :
    out0_B_6 (F := Ideal) c i a1 h1 a2 h2 a3 h3 a4 h4 a5 h5 a6 h6 a7 h7 hc0 x0 x1 x2 x5 x6 (ix2 r r') = (show EReal from x6 (ix2 r r')) := by
  refine ((congrFun (View.read_writes_junk_eq_canon _ _) _).trans (congrFun (congrArg View.canon (runB_c a1 h1 a2 h2 a3 h3 a4 h4 a5 h5 a6 h6 a7 h7 x0 x1 x2 x5 x6 c i hc0)) _)).trans ?_
  rw [gp_at, gadd_apply, csum_val (tiles a1 h1 a2 h2 a3 h3 a4 x0 x1 x2) hy, add_zero]
  exact readAt_at a7 h7 _ x6 r r' r r' (by omega) (by omega)

end Cert.KernelFIdeal.Val
end
-- ==== Proof.FFin.lean ====
module

public import proofs.«01_k».proof.Proof.FOut
public import proofs.«01_k».proof.Proof.Gen.KernelFIdeal.Value

@[expose] public section

set_option maxRecDepth 16384

noncomputable section

namespace Cert.KernelFIdeal.Val

open Cert.KernelYIdeal.Val (yb)
open Cert.KernelFIdeal Cert.KernelFIdeal.Gen Idealize.ShloMosaic Idealize.ShloMosaic.TcCoe Idealize.SL.Sem

/-! ## The four results of the whole grid -/

theorem idx : ∀ t : Fin cfg0.N, win0_0.index t = ![0, t.val, 0] ∧ win0_1.index t = ![0, t.val] ∧ win0_2.index t = ![0, 0]
    ∧ win0_3.index t = ![0, t.val] ∧ win0_4.index t = ![0, t.val] ∧ win0_5.index t = ![0, 0] ∧ win0_6.index t = ![0, 0] :=
  (by decide +kernel : ∀ t : Fin grid0.N, _)

variable (m : (ℓ : Loc nD τ sig) → Buf (Elt Ideal) ℓ) (c : Dev nD)

theorem iblk0 (t : Fin cfg0.N) (a : Fin 1536) (b : Fin 2048) (s : Fin 245760) (hs : s.val = t.val * 2048 + b.val) :
    (show Vec Ideal S1x2048x1536 .i8 from iblk m c 0 t) (ix3 0 b a) = m ((c : Thread nD τ).loc main_arg0) (ix3 0 s a) := by
  blk_point [iblk, V, idx t]
theorem iblk1 (t : Fin cfg0.N) (a : Fin 48) (b : Fin 2048) (s : Fin 245760) (hs : s.val = t.val * 2048 + b.val) :
    (show Vec Ideal S48x2048 .f32 from iblk m c 1 t) (ix2 a b) = m ((c : Thread nD τ).loc main_arg1) (ix2 a s) := by
  blk_point [iblk, V, idx t]
theorem iblk2 (t : Fin cfg0.N) (a : Fin 160) (b : Fin 1536) :
    (show Vec Ideal S160x1536 .bf16 from iblk m c 2 t) (ix2 a b) = m ((c : Thread nD τ).loc main_arg2) (ix2 a b) := by
  blk_point [iblk, V, idx t]

/-- The codes, transposed. -/
def tr (C : S1x245760x1536.Idx → BitVec 8) : S1536x245760.Idx → BitVec 8 := fun i => C (ix3 0 (i 1) (i 0))

/-- Entry `(r, s)` of the sketch. -/
def yv (r : Fin 160) (s : Fin 245760) : EReal :=
  yb (m ((c : Thread nD τ).loc main_arg2)) (tr (m ((c : Thread nD τ).loc main_arg0))) (m ((c : Thread nD τ).loc main_arg1)) r s

/-- One point's block of it. -/
def yt (t : Fin cfg0.N) (r : Fin 160) (b : Fin 2048) : EReal :=
  yb (N := 2048) (iblk m c 2 t) (tb (iblk m c 0 t)) (iblk m c 1 t) r b

theorem yt_eq (t : Fin cfg0.N) (r : Fin 160) (b : Fin 2048) (s : Fin 245760) (hs : s.val = t.val * 2048 + b.val) :
    yt m c t r b = yv m c r s := by
  unfold yt yv yb
  exact Finset.sum_congr rfl fun n _ => congrArg₂ (· * ·) (iblk2 m c t r n)
    (congrArg₂ (· * ·) (congrArg (fun z : BitVec 8 => ((z.toInt : ℝ) : EReal)) (iblk0 m c t n b s hs)) (iblk1 m c t ⟨n.val / 32, by omega⟩ b s hs))

variable {m c} (hf : ∀ r s, yv m c r s - yv m c r s = 0)

/-- What a point leaves in the block of the codes. -/
theorem out3_at (t : Fin cfg0.N) (n : Fin 1536) (b : Fin 2048) :
    (outsAt0 m c t.val t.isLt).1 (ix2 n b) = tb (iblk m c 0 t) (ix2 n b) := by
  by_cases h : t.val % 120 = 0
  · have e := outA3_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) c (grid0.coords t) ((hcond0_0 t).mpr h) n b
    rw [outsAt0_A m c t h]
    dsimp only
    exact e
  · have e := outB3_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (outsAt0 m c (t.val - 1) (Nat.lt_of_le_of_lt (Nat.sub_le _ _) t.isLt)).2.2.1
        (outsAt0 m c (t.val - 1) (Nat.lt_of_le_of_lt (Nat.sub_le _ _) t.isLt)).2.2.2 c (grid0.coords t) (fun h' => h ((hcond0_0 t).mp h')) n b
    rw [outsAt0_B m c t h]
    dsimp only
    exact e

/-- The codes, transposed. -/
theorem final3 : (dats m 0 c).arrAt 3 (cfgs 0).N = tr (m ((c : Thread nD τ).loc main_arg0)) := by
  refine (dats m 0 c).arrAt_eq_of_covers 3 _ (by decide +kernel) fun t ht y => ?_
  blk_simp
  rw [after0_3]
  idx_vars y
  refine ((out3_at t y0 y1).trans (iblk0 m c t y0 y1 ⟨t.val * 2048 + y1.val, by have := Nat.lt_of_lt_of_eq t.isLt N_0; omega⟩ rfl)).trans
    (congrArg₂ (fun a b => m ((c : Thread nD τ).loc main_arg0) (ix3 0 a b)) (Fin.ext ?_) (Fin.ext ?_))
  · simp [idx t]
  · simp [idx t]

/-- What a point leaves in the block of the sketch. -/
theorem out4_at (t : Fin cfg0.N) (r : Fin 160) (b : Fin 2048) :
    (outsAt0 m c t.val t.isLt).2.1 (ix2 r b) = yt m c t r b := by
  by_cases h : t.val % 120 = 0
  · have e := outA4_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) c (grid0.coords t) ((hcond0_0 t).mpr h) r b
    rw [outsAt0_A m c t h]
    dsimp only
    exact e
  · have e := outB4_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (outsAt0 m c (t.val - 1) (Nat.lt_of_le_of_lt (Nat.sub_le _ _) t.isLt)).2.2.1
        (outsAt0 m c (t.val - 1) (Nat.lt_of_le_of_lt (Nat.sub_le _ _) t.isLt)).2.2.2 c (grid0.coords t) (fun h' => h ((hcond0_0 t).mp h')) r b
    rw [outsAt0_B m c t h]
    dsimp only
    exact e

/-- The sketch, transposed. -/
theorem final4 : (dats m 0 c).arrAt 4 (cfgs 0).N = fun i : S160x245760.Idx => yv m c (i 0) (i 1) := by
  refine (dats m 0 c).arrAt_eq_of_covers 4 _ (by decide +kernel) fun t ht y => ?_
  blk_simp
  rw [after0_4]
  idx_vars y
  refine ((out4_at t y0 y1).trans (yt_eq m c t y0 y1 ⟨t.val * 2048 + y1.val, by have := Nat.lt_of_lt_of_eq t.isLt N_0; omega⟩ rfl)).trans
    (congrArg₂ (yv m c) (Fin.ext ?_) (Fin.ext ?_))
  · simp [idx t]
  · simp [idx t]

include hf

theorem fint (t : Fin cfg0.N) (r : Fin 160) (b : Fin 2048) : yt m c t r b - yt m c t r b = 0 := by
  rw [yt_eq m c t r b ⟨t.val * 2048 + b.val, by have := Nat.lt_of_lt_of_eq t.isLt N_0; omega⟩ rfl]
  exact hf _ _

/-- One point's addend to the products of the sketch with itself. -/
def term (m : (ℓ : Loc nD τ sig) → Buf (Elt Ideal) ℓ) (c : Dev nD) (t : Fin cfg0.N) (j : S160x160.Idx) : EReal :=
  ∑ s : Fin 2048, yt m c t (j 0) s * yt m c t (j 1) s

theorem step0 (t : Fin cfg0.N) (h : t.val % 120 = 0) (j : S160x160.Idx) :
    (outsAt0 m c t.val t.isLt).2.2.1 j = (0 : EReal) + term m c t j := by
  idx_vars j
  exact (congrFun (congrArg (fun p => p.2.2.1) (outsAt0_A m c t h)) (ix2 j0 j1)).trans
    (outA5_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) c (grid0.coords t) (fint hf t) ((hcond0_0 t).mpr h) j0 j1)

theorem step1 (t : Fin cfg0.N) (h : ¬ t.val % 120 = 0) (j : S160x160.Idx) :
    (outsAt0 m c t.val t.isLt).2.2.1 j
      = (show EReal from (outsAt0 m c (t.val - 1) (Nat.lt_of_le_of_lt (Nat.sub_le _ _) t.isLt)).2.2.1 j) + term m c t j := by
  idx_vars j
  exact (congrFun (congrArg (fun p => p.2.2.1) (outsAt0_B m c t h)) (ix2 j0 j1)).trans
    (outB5_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (outsAt0 m c (t.val - 1) (Nat.lt_of_le_of_lt (Nat.sub_le _ _) t.isLt)).2.2.1
        (outsAt0 m c (t.val - 1) (Nat.lt_of_le_of_lt (Nat.sub_le _ _) t.isLt)).2.2.2 c (grid0.coords t) (fint hf t) (fun h' => h ((hcond0_0 t).mp h')) j0 j1)

theorem zero0 (t : Fin cfg0.N) (h : t.val % 120 = 0) (j : S160x160.Idx) :
    (outsAt0 m c t.val t.isLt).2.2.2 j = (0 : EReal) + 0 := by
  idx_vars j
  rw [add_zero]
  exact (congrFun (congrArg (fun p => p.2.2.2) (outsAt0_A m c t h)) (ix2 j0 j1)).trans
    (outA6_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) c (grid0.coords t) (fint hf t) ((hcond0_0 t).mpr h) j0 j1)

theorem zero1 (t : Fin cfg0.N) (h : ¬ t.val % 120 = 0) (j : S160x160.Idx) :
    (outsAt0 m c t.val t.isLt).2.2.2 j
      = (show EReal from (outsAt0 m c (t.val - 1) (Nat.lt_of_le_of_lt (Nat.sub_le _ _) t.isLt)).2.2.2 j) + 0 := by
  idx_vars j
  rw [add_zero]
  exact (congrFun (congrArg (fun p => p.2.2.2) (outsAt0_B m c t h)) (ix2 j0 j1)).trans
    (outB6_val (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (outsAt0 m c (t.val - 1) (Nat.lt_of_le_of_lt (Nat.sub_le _ _) t.isLt)).2.2.1
        (outsAt0 m c (t.val - 1) (Nat.lt_of_le_of_lt (Nat.sub_le _ _) t.isLt)).2.2.2 c (grid0.coords t) (fint hf t) (fun h' => h ((hcond0_0 t).mp h')) j0 j1)

/-- The last point leaves all products. -/
theorem out5_last (t : Fin cfg0.N) (ht : t.val + 1 = cfg0.N) (j : S160x160.Idx) :
    (outsAt0 m c t.val t.isLt).2.2.1 j = ∑ s : Fin 245760, yv m c (j 0) s * yv m c (j 1) s := by
  refine (Pipeline.eq_sum_fin_of_reset_step_apply_last (M := EReal) (fun n h => (outsAt0 m c n h).2.2.1) 120 (fun _ => 0)
    (term m c) (step0 hf) (step1 hf) (le_of_eq N_0) t ht j).trans ?_
  rw [zero_add]
  refine Eq.trans ?_ (Fin.sum_univ_tiles cfg0.N 2048 (by rw [show cfg0.N = 120 from N_0])
    (fun s : Fin 245760 => yv m c (j 0) s * yv m c (j 1) s)).symm
  refine Finset.sum_congr rfl fun p _ => ?_
  unfold term
  refine Finset.sum_congr rfl fun s _ => ?_
  exact congrArg₂ (· * ·) (yt_eq m c p (j 0) s _ rfl) (yt_eq m c p (j 1) s _ rfl)

theorem out6_last (t : Fin cfg0.N) (ht : t.val + 1 = cfg0.N) (j : S160x160.Idx) :
    (outsAt0 m c t.val t.isLt).2.2.2 j = (0 : EReal) := by
  refine (Pipeline.eq_sum_fin_of_reset_step_apply_last (M := EReal) (fun n h => (outsAt0 m c n h).2.2.2) 120 (fun _ => 0)
    (fun _ _ => 0) (zero0 hf) (zero1 hf) (le_of_eq N_0) t ht j).trans ?_
  rw [zero_add]
  exact Finset.sum_const_zero

/-- The last point of the grid. -/
def lastPt : Fin cfg0.N := ⟨119, by rw [show cfg0.N = 120 from N_0]; omega⟩

/-- The products of the sketch with itself. -/
theorem final5 : (dats m 0 c).arrAt 5 (cfgs 0).N = fun i : S160x160.Idx => ∑ s : Fin 245760, yv m c (i 0) s * yv m c (i 1) s := by
  refine (dats m 0 c).arrAt_eq_of_after_last 5 lastPt (by decide +kernel) _ fun j => ?_
  blk_simp
  rw [after0_5]
  exact out5_last hf lastPt N_0.symm _

/-- The remaining products. -/
theorem final6 : (dats m 0 c).arrAt 6 (cfgs 0).N = fun _ : S160x160.Idx => (0 : EReal) := by
  refine (dats m 0 c).arrAt_eq_of_after_last 6 lastPt (by decide +kernel) _ fun j => ?_
  blk_simp
  rw [after0_6]
  exact out6_last hf lastPt N_0.symm _

end Cert.KernelFIdeal.Val
end
-- ==== Proof.YRef.lean ====
module

public import Idealize.ShloMosaic.Lib.Pointwise
public import proofs.«01_k».proof.Proof.YVal
public import proofs.«01_k».proof.Proof.Gen.ReferenceYIdeal.Value
public import proofs.«01_k».proof.Proof.Gen.ReferenceFIdeal.Value

@[expose] public section

set_option maxRecDepth 16384

noncomputable section

open Idealize.ShloMosaic
open Cert.KernelYIdeal.Val (yb)

/-! ## The results of the two references, entry by entry -/

namespace Cert.ReferenceYIdeal.Val

open Cert.ReferenceYIdeal Cert.ReferenceYIdeal.Gen

variable (C : Vec Ideal S1536x245760 .i8) (D : Vec Ideal S48x245760 .f32) (W : Vec Ideal S160x1536 .bf16)

/-- The sketch is the factor times the dequantised matrix. -/
theorem ref3 : k0_pay1 (F := Ideal) C D W = fun i : S160x245760.Idx => yb (N := 245760) W C D (i 0) (i 1) := by
  funext i
  idx_vars i
  show (_ : EReal) = _
  pointwise [k0_pay1]
  rfl

/-- The second result contracts the sketch with itself. -/
theorem ref4 : k0_pay2 (F := Ideal) C D W
    = fun i : S160x160.Idx => ∑ s : Fin 245760, yb (N := 245760) W C D (i 0) s * yb (N := 245760) W C D (i 1) s := by
  funext i
  idx_vars i
  show (_ : EReal) = _
  pointwise [k0_pay2, ref3]

theorem ref5 : k0_pay3 (F := Ideal) = fun _ : S160x160.Idx => (0 : EReal) := by
  funext i
  idx_vars i
  show (_ : EReal) = _
  pointwise [k0_pay3]

end Cert.ReferenceYIdeal.Val

namespace Cert.ReferenceFIdeal.Val

open Cert.ReferenceFIdeal Cert.ReferenceFIdeal.Gen

variable (C : Vec Ideal S1x245760x1536 .i8) (D : Vec Ideal S48x245760 .f32) (W : Vec Ideal S160x1536 .bf16)

/-- The codes, transposed. -/
def tr (C : S1x245760x1536.Idx → BitVec 8) : S1536x245760.Idx → BitVec 8 := fun i => C (ix3 0 (i 1) (i 0))

theorem ref3 : k0_pay1 (F := Ideal) C = tr C := by
  funext i
  idx_vars i
  show (_ : BitVec 8) = _
  pointwise [k0_pay1]
  rfl

/-- The sketch is the factor times the dequantised matrix. -/
theorem ref4 : k0_pay2 (F := Ideal) C D W = fun i : S160x245760.Idx => yb (N := 245760) W (tr C) D (i 0) (i 1) := by
  funext i
  idx_vars i
  show (_ : EReal) = _
  pointwise [k0_pay2, ref3]
  rfl

/-- The third result contracts the sketch with itself. -/
theorem ref5 : k0_pay3 (F := Ideal) C D W
    = fun i : S160x160.Idx => ∑ s : Fin 245760, yb (N := 245760) W (tr C) D (i 0) s * yb (N := 245760) W (tr C) D (i 1) s := by
  funext i
  idx_vars i
  show (_ : EReal) = _
  pointwise [k0_pay3, ref4]

theorem ref6 : k0_pay4 (F := Ideal) = fun _ : S160x160.Idx => (0 : EReal) := by
  funext i
  idx_vars i
  show (_ : EReal) = _
  pointwise [k0_pay4]

end Cert.ReferenceFIdeal.Val
end
-- ==== Proof.YPre.lean ====
module

public import proofs.«01_k».proof.Proof.PreVal
public import proofs.«01_k».proof.Proof.YVal
public import proofs.«01_k».proof.Pre_finite_y
public import proofs.«01_k».proof.Proof.Gen.Pre_finite_y
public import proofs.«01_k».proof.Pre_finite_first
public import proofs.«01_k».proof.Proof.Gen.Pre_finite_first

@[expose] public section

noncomputable section

open Idealize.ShloMosaic
open Cert.Pre_finite.Val (lt_of_cmp)

namespace Cert.KernelYIdeal.Val

/-! ## Of finite scales and a finite factor the sketch is finite -/

/-- A number that is neither infinity. -/
def IsReal (x : EReal) : Prop := ∃ r : ℝ, x = r

theorem IsReal.of_lt {x : EReal} (h : max x (-x) < ⊤) : IsReal x := by
  induction x with
  | bot => simp at h
  | top => simp at h
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub_self {x : EReal} (hx : IsReal x) : x - x = 0 := by
  obtain ⟨a, rfl⟩ := hx; rw [← EReal.coe_sub, _root_.sub_self, EReal.coe_zero]

theorem yb_sub_self {N : ℕ} (w : S160x1536.Idx → EReal) (C : (⟨2, ![1536, N]⟩ : Shape).Idx → BitVec 8) (D : (⟨2, ![48, N]⟩ : Shape).Idx → EReal)
    (hw : ∀ i, IsReal (w i)) (hD : ∀ i, IsReal (D i)) (r : Fin 160) (s : Fin N) : yb w C D r s - yb w C D r s = 0 :=
  IsReal.sub_self (Finset.sum_induction _ IsReal (fun _ _ => IsReal.add) ⟨0, EReal.coe_zero.symm⟩
    fun _ _ => (hw _).mul (IsReal.mul ⟨_, rfl⟩ (hD _)))

end Cert.KernelYIdeal.Val

namespace Cert.Pre_finite_y.Val

open Cert.Pre_finite_y Cert.KernelYIdeal.Val

variable [Facts] (a0 : IVec S1536x245760 8) (a1 : FVec Ideal S48x245760 .f32) (a2 : FVec Ideal S160x1536 .bf16)

/-- What the predicate says of the two arrays it reads. -/
theorem of_fn (h : fn (F := Ideal) a0 a1 a2 = fun _ => 1#1) :
    (∀ i, IsReal (show EReal from a1 i)) ∧ (∀ i, IsReal (show EReal from a2 i)) := by
  have h1 := congrFun h (fun a => a.elim0)
  dsimp only [fn] at h1
  have : Subsingleton S_.Idx := ⟨fun a b => funext fun i => i.elim0⟩
  obtain ⟨h2, h3⟩ : _ ∧ _ := IntOp.andi_eq_one.mp h1
  exact ⟨fun i => IsReal.of_lt (lt_of_cmp _ (Host.reduce_andi_all _ _ _ _ _ h2 i)),
    fun i => IsReal.of_lt (lt_of_cmp _ (Host.reduce_andi_all _ _ _ _ _ h3 i))⟩

end Cert.Pre_finite_y.Val

namespace Cert.Pre_finite_first.Val

open Cert.Pre_finite_first Cert.KernelYIdeal.Val

variable [Facts] (a0 : IVec S1x245760x1536 8) (a1 : FVec Ideal S48x245760 .f32) (a2 : FVec Ideal S160x1536 .bf16)

/-- What the predicate says of the two arrays it reads. -/
theorem of_fn (h : fn (F := Ideal) a0 a1 a2 = fun _ => 1#1) :
    (∀ i, IsReal (show EReal from a1 i)) ∧ (∀ i, IsReal (show EReal from a2 i)) := by
  have h1 := congrFun h (fun a => a.elim0)
  dsimp only [fn] at h1
  have : Subsingleton S_.Idx := ⟨fun a b => funext fun i => i.elim0⟩
  obtain ⟨h2, h3⟩ : _ ∧ _ := IntOp.andi_eq_one.mp h1
  exact ⟨fun i => IsReal.of_lt (lt_of_cmp _ (Host.reduce_andi_all _ _ _ _ _ h2 i)),
    fun i => IsReal.of_lt (lt_of_cmp _ (Host.reduce_andi_all _ _ _ _ _ h3 i))⟩

end Cert.Pre_finite_first.Val
end
-- ==== Proof.CReal.lean ====
module

public import Mathlib.LinearAlgebra.Matrix.NonsingularInverse
public import Mathlib.LinearAlgebra.Matrix.Block
public import Mathlib.Analysis.SpecialFunctions.Pow.Real

@[expose] public section

noncomputable section

namespace Cert.Chol

open Matrix

/-! ## Elimination, the Cholesky factor and its inverse, over the reals -/

variable {r : ℕ}

/-- Step `k` of elimination: the part of the matrix not yet explained by the first `k` columns. -/
def elim (G : Matrix (Fin r) (Fin r) ℝ) : ℕ → Matrix (Fin r) (Fin r) ℝ
  | 0 => G
  | k + 1 => fun i j =>
      if h : k < r then elim G k i j - elim G k i ⟨k, h⟩ * elim G k ⟨k, h⟩ j / elim G k ⟨k, h⟩ ⟨k, h⟩ else elim G k i j

/-- Every pivot the elimination meets is positive. -/
def Pivots (G : Matrix (Fin r) (Fin r) ℝ) : Prop := ∀ k : Fin r, 0 < elim G k k k

/-- The Cholesky factor: column `j` is column `j` of the matrix at step `j` over the root of its pivot. -/
def chol (G : Matrix (Fin r) (Fin r) ℝ) : Matrix (Fin r) (Fin r) ℝ := fun i j =>
  if j ≤ i then elim G j i j / Real.sqrt (elim G j j j) else 0

/-- The other factor: row `i` is row `i` of the matrix at step `i` over the root of its pivot. -/
def up (G : Matrix (Fin r) (Fin r) ℝ) : Matrix (Fin r) (Fin r) ℝ := fun i j =>
  elim G i i j * (Real.sqrt (elim G i i i))⁻¹

theorem elim_succ (G : Matrix (Fin r) (Fin r) ℝ) (k : Fin r) (i j : Fin r) :
    elim G (k + 1) i j = elim G k i j - elim G k i k * elim G k k j / elim G k k k := by
  rw [elim]; simp

variable {G : Matrix (Fin r) (Fin r) ℝ} (hp : Pivots G)
include hp

/-- Rows and columns already used are zero. -/
theorem elim_zero (k : ℕ) (hk : k ≤ r) (i j : Fin r) (h : (i : ℕ) < k ∨ (j : ℕ) < k) : elim G k i j = 0 := by
  induction k generalizing i j with
  | zero => omega
  | succ k ih =>
    obtain ⟨K, rfl⟩ : ∃ K : Fin r, (K : ℕ) = k := ⟨⟨k, by omega⟩, rfl⟩
    rw [elim_succ]
    have h' : (i : ℕ) < K ∨ (j : ℕ) < K ∨ i = K ∨ j = K := by simp only [Fin.ext_iff]; omega
    rcases h' with h | h | h | h
    · rw [ih (by omega) i j (.inl h), ih (by omega) i _ (.inl h)]; simp
    · rw [ih (by omega) i j (.inr h), ih (by omega) _ j (.inr h)]; simp
    · rw [h, mul_div_assoc, mul_div_cancel₀ _ (hp K).ne', sub_self]
    · rw [h, mul_div_assoc, div_self (hp K).ne', mul_one, sub_self]

theorem chol_eq (i K : Fin r) : chol G i K = elim G K i K / Real.sqrt (elim G K K K) := by
  unfold chol
  split
  · rfl
  · rename_i h
    rw [elim_zero hp K (by omega) i _ (.inl (not_le.mp h))]; simp

/-- One step of elimination takes off the product of a column of one factor and a row of the other. -/
theorem elim_step (K i j : Fin r) : elim G (K + 1) i j = elim G K i j - chol G i K * up G K j := by
  rw [elim_succ, chol_eq hp, up, ← div_eq_mul_inv, div_mul_div_comm, Real.mul_self_sqrt (hp K).le]

theorem elim_eq_sub (k : ℕ) (hk : k ≤ r) (i j : Fin r) :
    elim G k i j = G i j - ∑ l : Fin r, if (l : ℕ) < k then chol G i l * up G l j else 0 := by
  induction k with
  | zero => simp [elim]
  | succ k ih =>
    obtain ⟨K, rfl⟩ : ∃ K : Fin r, (K : ℕ) = k := ⟨⟨k, by omega⟩, rfl⟩
    rw [elim_step hp, ih (by omega)]
    have : ∀ l : Fin r, (if (l : ℕ) < K + 1 then chol G i l * up G l j else 0)
        = (if (l : ℕ) < K then chol G i l * up G l j else 0) + (if l = K then chol G i l * up G l j else 0) := by
      intro l
      by_cases h1 : (l : ℕ) < K
      · have : l ≠ K := fun h => by rw [h] at h1; exact lt_irrefl _ h1
        simp [h1, this, Nat.lt_succ_of_lt h1]
      · by_cases h2 : l = K
        · rw [h2]; simp
        · have : ¬ (l : ℕ) < K + 1 := fun h => h2 (Fin.ext (by omega))
          simp [h1, h2, this]
    rw [Finset.sum_congr rfl fun l _ => this l, Finset.sum_add_distrib]
    simp only [Finset.sum_ite_eq', Finset.mem_univ, if_true]
    ring

/-- The two factors give the matrix back. -/
theorem chol_mul_up : chol G * up G = G := by
  ext i j
  have h := elim_eq_sub hp r le_rfl i j
  rw [elim_zero hp r le_rfl i j (.inl i.isLt)] at h
  simp only [Fin.is_lt, if_true] at h
  simp only [Matrix.mul_apply]
  linarith

theorem chol_diag_pos (k : Fin r) : 0 < chol G k k := by
  unfold chol
  simp only [le_refl, if_true]
  exact div_pos (hp k) (Real.sqrt_pos.mpr (hp k))

theorem up_det : IsUnit (up G).det := by
  rw [← Matrix.det_transpose, Matrix.det_of_lowerTriangular (up G)ᵀ (fun i j h => by
    have h' : i < j := by simpa using h
    simp only [Matrix.transpose_apply, up]
    rw [elim_zero hp j (by omega) j i (.inr h'), zero_mul])]
  exact isUnit_iff_ne_zero.mpr (Finset.prod_ne_zero_iff.mpr fun k _ =>
    (mul_pos (hp k) (inv_pos.mpr (Real.sqrt_pos.mpr (hp k)))).ne')

/-! ### Elimination with the identity alongside -/

omit hp in
/-- The factor by which step `k` takes row `k` off row `i`. -/
def fac (G : Matrix (Fin r) (Fin r) ℝ) (k i : Fin r) : ℝ := if k < i then elim G k i k / elim G k k k else 0

omit hp in
/-- The factor by which step `k` scales row `i`. -/
def scl (G : Matrix (Fin r) (Fin r) ℝ) (k i : Fin r) : ℝ := if i = k then (Real.sqrt (elim G k k k))⁻¹ else 1

omit hp in
/-- The left half after `k` steps: rows already used are rows of the second factor. -/
def lft (G : Matrix (Fin r) (Fin r) ℝ) (k : ℕ) : Matrix (Fin r) (Fin r) ℝ := fun i j => if (i : ℕ) < k then up G i j else elim G k i j

omit hp in
/-- The right half after `k` steps, the identity at first. -/
def rgt (G : Matrix (Fin r) (Fin r) ℝ) : ℕ → Matrix (Fin r) (Fin r) ℝ
  | 0 => 1
  | k + 1 => fun i j => if h : k < r then (rgt G k i j - fac G ⟨k, h⟩ i * rgt G k ⟨k, h⟩ j) * scl G ⟨k, h⟩ i else rgt G k i j

omit hp in
theorem rgt_succ (k i j : Fin r) : rgt G (k + 1) i j = (rgt G k i j - fac G k i * rgt G k k j) * scl G k i := by
  rw [rgt]; simp

omit hp in
theorem lft_self (k j : Fin r) : lft G k k j = elim G k k j := by simp [lft]

omit hp in
theorem lft_ge (k i j : Fin r) (h : k ≤ i) : lft G k i j = elim G k i j := by
  unfold lft; rw [if_neg]; omega

theorem lft_succ (k i j : Fin r) : lft G (k + 1) i j = (lft G k i j - fac G k i * lft G k k j) * scl G k i := by
  rw [lft_self]
  rcases lt_trichotomy i k with h | h | h
  · have h1 : (i : ℕ) < k := h
    simp [lft, fac, scl, h1, Nat.lt_succ_of_lt h1, h.ne, not_lt.mpr h.le]
  · subst h
    simp [lft, fac, scl, up]
  · have h1 : (k : ℕ) < i := h
    have h2 : ¬ (i : ℕ) < k + 1 := by omega
    have h3 : ¬ (i : ℕ) < k := by omega
    simp only [lft, fac, scl, h, h2, h3, h.ne', if_true, if_false, mul_one]
    rw [elim_succ, mul_div_right_comm]

theorem rgt_mul (k : ℕ) (hk : k ≤ r) : rgt G k * G = lft G k := by
  induction k with
  | zero => ext i j; simp [rgt, lft, elim]
  | succ k ih =>
    obtain ⟨K, rfl⟩ : ∃ K : Fin r, (K : ℕ) = k := ⟨⟨k, by omega⟩, rfl⟩
    ext i j
    rw [lft_succ hp, ← ih (by omega)]
    simp only [Matrix.mul_apply, rgt_succ]
    rw [Finset.mul_sum, ← Finset.sum_sub_distrib, Finset.sum_mul]
    exact Finset.sum_congr rfl fun l _ => by ring

/-- After the last step the right half is the inverse of the Cholesky factor. -/
theorem rgt_mul_chol : rgt G r * chol G = 1 := by
  have h : rgt G r * chol G * up G = 1 * up G := by
    rw [Matrix.mul_assoc, chol_mul_up hp, rgt_mul hp r le_rfl, one_mul]
    ext i j; simp [lft]
  have h2 := congrArg (fun M => M * (up G)⁻¹) h
  simpa only [Matrix.mul_assoc, Matrix.mul_nonsing_inv _ (up_det hp), mul_one] using h2

/-! ### Substitution -/

omit hp in
/-- The columns found by `k` steps of substitution: the others are zero. -/
def sub (L : Matrix (Fin r) (Fin r) ℝ) : ℕ → Matrix (Fin r) (Fin r) ℝ
  | 0 => 0
  | k + 1 => fun i j => if h : k < r then
      (if j = ⟨k, h⟩ then ((1 : Matrix (Fin r) (Fin r) ℝ) i ⟨k, h⟩ - ∑ l, sub L k i l * L ⟨k, h⟩ l) / L ⟨k, h⟩ ⟨k, h⟩ else sub L k i j)
    else sub L k i j

omit hp in
theorem sub_succ (L : Matrix (Fin r) (Fin r) ℝ) (k i j : Fin r) :
    sub L (k + 1) i j = if j = k then ((1 : Matrix (Fin r) (Fin r) ℝ) i k - ∑ l, sub L k i l * L k l) / L k k else sub L k i j := by
  rw [sub]; simp

theorem sub_spec (k : ℕ) (hk : k ≤ r) (i j : Fin r) :
    ((j : ℕ) < k → ∑ l, sub (chol G) k i l * chol G j l = (1 : Matrix (Fin r) (Fin r) ℝ) i j)
      ∧ (k ≤ (j : ℕ) → sub (chol G) k i j = 0) := by
  induction k generalizing j with
  | zero => simp [sub]
  | succ k ih =>
    obtain ⟨K, rfl⟩ : ∃ K : Fin r, (K : ℕ) = k := ⟨⟨k, by omega⟩, rfl⟩
    have ih := fun j => ih (by omega) j
    refine ⟨fun h => ?_, fun h => ?_⟩
    · have hs : ∑ l, sub (chol G) (K + 1) i l * chol G j l = (∑ l, sub (chol G) K i l * chol G j l) + sub (chol G) (K + 1) i K * chol G j K := by
        have : ∀ l : Fin r, sub (chol G) (K + 1) i l * chol G j l
            = sub (chol G) K i l * chol G j l + (if l = K then sub (chol G) (K + 1) i K * chol G j K else 0) := by
          intro l
          by_cases e : l = K
          · subst e; rw [(ih l).2 le_rfl]; simp
          · rw [sub_succ, if_neg e, if_neg e, add_zero]
        rw [Finset.sum_congr rfl fun l _ => this l, Finset.sum_add_distrib]
        simp
      rw [hs]
      by_cases e : j = K
      · subst e
        rw [sub_succ, if_pos rfl, div_mul_cancel₀ _ (chol_diag_pos hp j).ne']
        ring
      · have hj : (j : ℕ) < K := by have : (j : ℕ) ≠ K := fun h => e (Fin.ext h); omega
        rw [(ih j).1 hj, show chol G j K = 0 by unfold chol; rw [if_neg]; simpa using hj, mul_zero, add_zero]
    · have e : j ≠ K := fun e => by rw [e] at h; omega
      rw [sub_succ, if_neg e, (ih j).2 (by omega)]

/-- What elimination leaves on the right is what substitution finds, transposed. -/
theorem rgt_eq (i j : Fin r) : rgt G r i j = sub (chol G) r j i := by
  have h1 : sub (chol G) r * (chol G)ᵀ = 1 := by
    ext i j
    simp only [Matrix.mul_apply, Matrix.transpose_apply]
    exact (sub_spec hp r le_rfl i j).1 j.isLt
  have h2 : chol G * (sub (chol G) r)ᵀ = 1 := by
    have := congrArg Matrix.transpose h1
    simpa using this
  have h3 : rgt G r = (sub (chol G) r)ᵀ := left_inv_eq_right_inv (rgt_mul_chol hp) h2
  rw [h3, Matrix.transpose_apply]

end Cert.Chol
end
-- ==== Proof.CWord.lean ====
module

public import Idealize.ShloMosaic.Lib.Pointwise
public import Idealize.ShloMosaic.Lib.WordCmp
public import proofs.«01_k».proof.Proof.CReal

@[expose] public section

noncomputable section

namespace Cert.Chol

open Idealize.ShloMosaic Idealize.ShloMosaic.WordCmp

/-! ## Masks made of index words, and the operations on finite numbers -/

/-- The word of trip `k` of a loop from zero by ones. -/
theorem iv_eq (k : ℕ) : Scf.iv 0#32 1#32 k = BitVec.ofNat 32 k := by simp [Scf.iv]

theorem sel_bool {α : Type} (p : Prop) [Decidable p] (x y : α) : Scalar.select (BitVec.ofBool (decide p)) x y = if p then x else y := by
  by_cases h : p <;> simp [h, Scalar.select]

section
variable {α : Type} {a b : ℕ} (ha : a < 512) (hb : b < 512) (x y : α)
include ha hb

theorem sel_eq : Scalar.select (IntOp.cmpi .eq (BitVec.ofNat 32 a) (BitVec.ofNat 32 b)) x y = if a = b then x else y := by
  rw [cmpi_eq_ofNat (by omega) (by omega), sel_bool]
theorem sel_gt : Scalar.select (IntOp.cmpi .sgt (BitVec.ofNat 32 a) (BitVec.ofNat 32 b)) x y = if b < a then x else y := by
  rw [cmpi_sgt_ofNat (by norm_num; omega) (by norm_num; omega), sel_bool]
theorem sel_ge : Scalar.select (IntOp.cmpi .sge (BitVec.ofNat 32 a) (BitVec.ofNat 32 b)) x y = if b ≤ a then x else y := by
  rw [cmpi_sge_ofNat (by norm_num; omega) (by norm_num; omega), sel_bool]

omit x y in
/-- Entry of the identity as a word turned into a number. -/
theorem eye_eq : (show EReal from FloatOps.sitofp (F := Ideal) FTy.f32 (BitVec.setWidth 32 (IntOp.cmpi .eq (BitVec.ofNat 32 a) (BitVec.ofNat 32 b))))
    = ((if a = b then 1 else 0 : ℝ) : EReal) := by
  rw [cmpi_eq_ofNat (by omega) (by omega)]
  by_cases h : a = b
  · simp only [h, decide_true, if_true]
    show (((BitVec.setWidth 32 (BitVec.ofBool true)).toInt : ℝ) : EReal) = _
    rw [show (BitVec.setWidth 32 (BitVec.ofBool true)).toInt = 1 by decide]
    norm_num
  · simp only [h, decide_false, if_false]
    show (((BitVec.setWidth 32 (BitVec.ofBool false)).toInt : ℝ) : EReal) = _
    rw [show (BitVec.setWidth 32 (BitVec.ofBool false)).toInt = 0 by decide]
    norm_num

end

/-- A sum of which a mask keeps one term. -/
theorem sum_sel {n : ℕ} (hn : n ≤ 512) (k : ℕ) (hk : k < n) (f : Fin n → EReal) :
    ∑ x : Fin n, Scalar.select (IntOp.cmpi .eq (BitVec.ofNat 32 x.val) (BitVec.ofNat 32 k)) (f x) 0 = f ⟨k, hk⟩ := by
  rw [Finset.sum_eq_single (⟨k, hk⟩ : Fin n)]
  · rw [sel_eq (by simp; omega) (by omega), if_pos rfl]
  · intro b _ hb
    rw [sel_eq (by omega) (by omega), if_neg fun h => hb (Fin.ext h)]
  · exact fun h => absurd (Finset.mem_univ _) h

/-- The same over two indices. -/
theorem sum_sel2 {n : ℕ} (hn : n ≤ 512) (k : ℕ) (hk : k < n) (f : Fin n → Fin n → EReal) :
    ∑ x : Fin n, ∑ y : Fin n, Scalar.select (IntOp.andi (IntOp.cmpi .eq (BitVec.ofNat 32 x.val) (BitVec.ofNat 32 k))
      (IntOp.cmpi .eq (BitVec.ofNat 32 y.val) (BitVec.ofNat 32 k))) (f x y) 0 = f ⟨k, hk⟩ ⟨k, hk⟩ := by
  have h : ∀ x y : Fin n, Scalar.select (IntOp.andi (IntOp.cmpi .eq (BitVec.ofNat 32 x.val) (BitVec.ofNat 32 k))
      (IntOp.cmpi .eq (BitVec.ofNat 32 y.val) (BitVec.ofNat 32 k))) (f x y) 0
      = Scalar.select (IntOp.cmpi .eq (BitVec.ofNat 32 y.val) (BitVec.ofNat 32 k))
          (Scalar.select (IntOp.cmpi .eq (BitVec.ofNat 32 x.val) (BitVec.ofNat 32 k)) (f x y) 0) 0 := by
    intro x y
    rw [cmpi_eq_ofNat (by omega) (by omega), cmpi_eq_ofNat (by omega) (by omega), sel_bool, sel_bool]
    by_cases h1 : x.val = k <;> by_cases h2 : y.val = k <;> simp [h1, h2, IntOp.andi, Scalar.select]
  simp only [h]
  rw [Finset.sum_congr rfl fun x _ => sum_sel hn k hk _]
  exact sum_sel hn k hk fun x => f x ⟨k, hk⟩

/-! ### On finite numbers -/

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem rsqrt_coe {x : ℝ} (hx : 0 < x) : Ideal.rsqrt (x : EReal) = (((Real.sqrt x)⁻¹ : ℝ) : EReal) := by
  rw [Ideal.rsqrt_coe, if_neg (not_lt.mpr hx.le), if_neg hx.ne']

theorem sqrt_coe {x : ℝ} (hx : 0 < x) : Ideal.sqrt (x : EReal) = ((Real.sqrt x : ℝ) : EReal) := by
  rw [Ideal.sqrt_coe, if_neg (not_lt.mpr hx.le)]

theorem sum_coe {n : ℕ} (f : Fin n → ℝ) : ∑ x : Fin n, (f x : EReal) = ((∑ x, f x : ℝ) : EReal) := by
  induction (Finset.univ : Finset (Fin n)) using Finset.induction_on with
  | empty => simp
  | insert a s h ih => rw [Finset.sum_insert h, Finset.sum_insert h, ih, EReal.coe_add]

end Cert.Chol
end
-- ==== Proof.CKer.lean ====
module

public import proofs.«01_k».proof.Proof.WBody
public import proofs.«01_k».proof.Proof.CWord
public import proofs.«01_k».proof.Proof.Gen.KernelCIdeal.Value

@[expose] public section

set_option maxRecDepth 16384

noncomputable section

namespace Cert.KernelCIdeal.Val

open Cert.KernelCIdeal Cert.KernelCIdeal.Gen Idealize.ShloMosaic Idealize.ShloMosaic.TcCoe Idealize.SL.Sem
open Cert.KernelIdeal.Val (rct ldR rdC pc canon_hit canon_miss readCov_at readAt_at)
open Cert.Chol

/-! ## What the call that factors and inverts leaves in its scratch, step by step -/

theorem trips_eq : k0_t1_loop.trips = 160 := by decide +kernel

/-- One step at an entry: row `k`, scaled, is taken off the rows below it, and is itself divided by the root of its pivot. -/
theorem pay4_at (k : Fin k0_t1_loop.trips) (K : Fin 160) (hK : K.val = k.val) (A : Vec Ideal S160x512 .f32) (B : Vec Ideal S1x512 .f32)
    (i : Fin 160) (x : Fin 512) :
    (show EReal from k0_pay4 (F := Ideal) k A B (ix2 i x))
      = ((show EReal from A (ix2 i x)) - (if K < i then Ideal.div (A (ix2 i ⟨K, by omega⟩)) (B (ix2 0 ⟨K, by omega⟩)) * (show EReal from B (ix2 0 x)) else 0))
        * (if i = K then Ideal.rsqrt (B (ix2 0 ⟨K, by omega⟩)) else 1) := by
  show (_ : EReal) = _
  pointwise [k0_pay4]
  rw [iv_eq, ← hK, sum_sel (by norm_num) K.val (by omega), sum_sel (by norm_num) K.val (by omega), sel_gt (by omega) (by omega),
    sel_eq (by omega) (by omega)]
  simp only [Fin.ext_iff, Fin.lt_def]

variable (c : Dev nD) (a0 : Memref sig .tc .vmem S160x160 .f32) (h0 : a0.IsWhole) (a1 : Memref sig .tc .vmem S160x160 .f32) (h1 : a1.IsWhole)
  (a2 : Memref sig .tc .vmem S160x160 .f32) (h2 : a2.IsWhole) (a3 : Memref sig .tc .vmem S160x512 .f32) (h3 : a3.IsWhole)
  (x0 : Vec Ideal S160x160 .f32) (x1 : Vec Ideal S160x160 .f32)

/-- The stores before the first step, last first. -/
def hlist : List (View.Piece (Elt Ideal) S160x512 .f32) :=
  [pc 0 256 160 160 inb_S160x512_S160x160_0_256 (k0_pay3 (F := Ideal)),
    pc 0 0 160 160 inb_S160x512_S160x160_0_0 (k0_pay2 (F := Ideal) (ldR a1 h1 x1 0 0 160 160 inb_S160x160_S160x160_0_0)
      (ldR a0 h0 x0 0 0 160 160 inb_S160x160_S160x160_0_0)),
    pc 0 0 160 512 inb_S160x512_S160x512_0_0 (k0_pay1 (F := Ideal))]

/-- The stores before step `k`, last first. -/
def klist (k : ℕ) : List (View.Piece (Elt Ideal) S160x512 .f32) :=
  pb_k0_t1 (F := Ideal) Variants.none c none a0 h0 a1 h1 a2 h2 a3 h3 (a3.view.writes (Elt Ideal) a3.view.junk (hlist a0 h0 a1 h1 x0 x1)) k
    ++ hlist a0 h0 a1 h1 x0 x1

theorem out_eq : (kernelRun0_A (F := Ideal) c a0 h0 a1 h1 a2 h2 a3 h3 x0 x1).1
    = [pc 0 0 160 160 inb_S160x160_S160x160_0_0 (rdC a3.view (klist c a0 h0 a1 h1 a2 h2 a3 h3 x0 x1 160) 0 256 160 160 inb_S160x512_S160x160_0_256)] := by
  have h : (kernelRun0_A (F := Ideal) c a0 h0 a1 h1 a2 h2 a3 h3 x0 x1).1 = [pc 0 0 160 160 inb_S160x160_S160x160_0_0
      (rdC a3.view (klist c a0 h0 a1 h1 a2 h2 a3 h3 x0 x1 k0_t1_loop.trips) 0 256 160 160 inb_S160x512_S160x160_0_256)] := rfl
  rw [h, trips_eq]

theorem klist_succ (k : Fin k0_t1_loop.trips) : klist c a0 h0 a1 h1 a2 h2 a3 h3 x0 x1 (k.val + 1)
    = pc 0 0 160 512 inb_S160x512_S160x512_0_0 (k0_pay4 (F := Ideal) k
        (rdC a3.view (klist c a0 h0 a1 h1 a2 h2 a3 h3 x0 x1 k.val) 0 0 160 512 inb_S160x512_S160x512_0_0)
        (a3.view.readCov (klist c a0 h0 a1 h1 a2 h2 a3 h3 x0 x1 k.val) (Rect.unit (s := S160x512) (k0_off1 k) S1x512.size (k0_off1_inb k)).toLoadRect))
      :: klist c a0 h0 a1 h1 a2 h2 a3 h3 x0 x1 k.val := by
  unfold klist
  rw [pb_k0_t1_succ, ← View.writes_append, List.append_assoc]
  unfold tripL_k0_t1 trip_k0_t1
  rfl

/-- Entry of the scratch before step `k`. -/
def st (k : ℕ) (i : Fin 160) (x : Fin 512) : EReal := View.canon (klist c a0 h0 a1 h1 a2 h2 a3 h3 x0 x1 k) (ix2 i x)

theorem st_succ (K : Fin 160) (i : Fin 160) (x : Fin 512) : st c a0 h0 a1 h1 a2 h2 a3 h3 x0 x1 (K.val + 1) i x
    = (st c a0 h0 a1 h1 a2 h2 a3 h3 x0 x1 K.val i x - (if K < i then
          Ideal.div (st c a0 h0 a1 h1 a2 h2 a3 h3 x0 x1 K.val i ⟨K, by omega⟩) (st c a0 h0 a1 h1 a2 h2 a3 h3 x0 x1 K.val K ⟨K, by omega⟩)
            * st c a0 h0 a1 h1 a2 h2 a3 h3 x0 x1 K.val K x else 0))
      * (if i = K then Ideal.rsqrt (st c a0 h0 a1 h1 a2 h2 a3 h3 x0 x1 K.val K ⟨K, by omega⟩) else 1) := by
  obtain ⟨k, hk⟩ : ∃ k : Fin k0_t1_loop.trips, K.val = k.val := ⟨⟨K.val, by rw [trips_eq]; exact K.isLt⟩, rfl⟩
  have eA : ∀ y : Fin 512, rdC a3.view (klist c a0 h0 a1 h1 a2 h2 a3 h3 x0 x1 k.val) 0 0 160 512 inb_S160x512_S160x512_0_0 (ix2 i y)
      = st c a0 h0 a1 h1 a2 h2 a3 h3 x0 x1 K.val i y := fun y => by
    rw [hk]; exact readCov_at a3.view _ _ i y i y (by simp) (by simp)
  have eB : ∀ y : Fin 512, a3.view.readCov (klist c a0 h0 a1 h1 a2 h2 a3 h3 x0 x1 k.val)
        (Rect.unit (s := S160x512) (k0_off1 k) S1x512.size (k0_off1_inb k)).toLoadRect (ix2 (0 : Fin 1) y)
      = st c a0 h0 a1 h1 a2 h2 a3 h3 x0 x1 K.val K y := fun y => by
    rw [View.readCov_eq_canon', hk]
    show View.canon _ _ = View.canon _ _
    congr 1
    funext d
    refine Fin.ext ?_
    match d with
    | ⟨0, _⟩ => simp [LoadRect.idx, Rect.unit, k0_off1_eq, hk]
    | ⟨1, _⟩ => simp [LoadRect.idx, Rect.unit, k0_off1_eq]
  have hs : st c a0 h0 a1 h1 a2 h2 a3 h3 x0 x1 (K.val + 1) i x = View.canon (klist c a0 h0 a1 h1 a2 h2 a3 h3 x0 x1 (k.val + 1)) (ix2 i x) := by
    rw [← hk]; rfl
  rw [hs, klist_succ, canon_hit _ _ _ i x i x (by simp) (by simp)]
  refine (pay4_at k K hk _ _ i x).trans ?_
  rw [eA, eA, eB, eB]

theorem st_left (i j : Fin 160) : st c a0 h0 a1 h1 a2 h2 a3 h3 x0 x1 0 i ⟨j, by omega⟩
    = (show EReal from x0 (ix2 i j)) + (show EReal from x1 (ix2 i j)) + (show EReal from x1 (ix2 j i)) := by
  show View.canon (hlist a0 h0 a1 h1 x0 x1) _ = _
  unfold hlist
  rw [canon_miss _ _ _ i ⟨j, _⟩ (by simp; omega), canon_hit _ _ _ i ⟨j, _⟩ i j (by simp) (by simp)]
  show (_ : EReal) = _
  pointwise [k0_pay2]
  erw [readAt_at a0 h0 inb_S160x160_S160x160_0_0 x0 i j i j (by simp) (by simp), readAt_at a1 h1 inb_S160x160_S160x160_0_0 x1 i j i j (by simp) (by simp),
    readAt_at a1 h1 inb_S160x160_S160x160_0_0 x1 j i j i (by simp) (by simp)]

theorem st_right (i j : Fin 160) : st c a0 h0 a1 h1 a2 h2 a3 h3 x0 x1 0 i ⟨256 + j, by omega⟩ = ((if i = j then 1 else 0 : ℝ) : EReal) := by
  show View.canon (hlist a0 h0 a1 h1 x0 x1) _ = _
  unfold hlist
  rw [canon_hit _ _ _ i ⟨256 + j, _⟩ i j (by simp) (by simp)]
  show (_ : EReal) = _
  pointwise [k0_pay3]
  refine (eye_eq (by omega) (by omega)).trans ?_
  simp only [Fin.ext_iff]

variable {c a0 h0 a1 h1 a2 h2 a3 h3 x0 x1}
variable {G : Matrix (Fin 160) (Fin 160) ℝ} (hp : Pivots G)
  (hG : ∀ i j : Fin 160, (show EReal from x0 (ix2 i j)) + (show EReal from x1 (ix2 i j)) + (show EReal from x1 (ix2 j i)) = (G i j : EReal))
include hp hG

/-- Of a finite matrix with positive pivots the scratch holds the two halves of the elimination. -/
theorem st_real (k : ℕ) (hk : k ≤ 160) (i j : Fin 160) :
    st c a0 h0 a1 h1 a2 h2 a3 h3 x0 x1 k i ⟨j, by omega⟩ = (lft G k i j : EReal)
      ∧ st c a0 h0 a1 h1 a2 h2 a3 h3 x0 x1 k i ⟨256 + j, by omega⟩ = (rgt G k i j : EReal) := by
  induction k generalizing i j with
  | zero =>
    refine ⟨?_, ?_⟩
    · rw [st_left, hG]; simp [lft, elim]
    · rw [st_right]; simp [rgt, Matrix.one_apply]
  | succ k ih =>
    obtain ⟨K, rfl⟩ : ∃ K : Fin 160, (K : ℕ) = k := ⟨⟨k, by omega⟩, rfl⟩
    have ih := fun i j => ih (by omega) i j
    have hf : ∀ z : ℝ, (if K < i then Ideal.div (lft G K i K : EReal) (lft G K K K : EReal) * (z : EReal) else 0) = ((fac G K i * z : ℝ) : EReal) := by
      intro z
      unfold fac
      by_cases h : K < i
      · rw [if_pos h, if_pos h, lft_self, lft_ge _ _ _ h.le, div_coe _ (hp K).ne', EReal.coe_mul]
      · rw [if_neg h, if_neg h, zero_mul, EReal.coe_zero]
    have hs : (if i = K then Ideal.rsqrt (lft G K K K : EReal) else 1) = (scl G K i : EReal) := by
      unfold scl
      by_cases h : i = K
      · rw [if_pos h, if_pos h, lft_self, rsqrt_coe (hp K)]
      · rw [if_neg h, if_neg h, EReal.coe_one]
    refine ⟨?_, ?_⟩
    · rw [st_succ, (ih i j).1, (ih i K).1, (ih K K).1, (ih K j).1, hf, hs, lft_succ hp, ← EReal.coe_sub, ← EReal.coe_mul]
    · rw [st_succ, (ih i j).2, (ih i K).1, (ih K K).1, (ih K j).2, hf, hs, rgt_succ, ← EReal.coe_sub, ← EReal.coe_mul]

/-- What the body leaves in its result. -/
theorem out_val (i j : Fin 160) : (show EReal from out0_A_2 (F := Ideal) c a0 h0 a1 h1 a2 h2 a3 h3 x0 x1 (ix2 i j)) = (rgt G 160 i j : EReal) := by
  show VO0_2.read (Elt Ideal) (VO0_2.writes (Elt Ideal) VO0_2.junk (kernelRun0_A (F := Ideal) c a0 h0 a1 h1 a2 h2 a3 h3 x0 x1).1) (ix2 i j) = _
  rw [View.read_writes_junk_apply_eq_canon, out_eq, canon_hit _ _ _ i j i j (by simp) (by simp),
    readCov_at a3.view _ _ i ⟨256 + j, by omega⟩ i j (by simp) (by simp)]
  exact (st_real hp hG 160 le_rfl i j).2

end Cert.KernelCIdeal.Val
end
-- ==== Proof.CFin.lean ====
module

public import proofs.«01_k».proof.Proof.CKer

@[expose] public section

set_option maxRecDepth 16384

noncomputable section

namespace Cert.KernelCIdeal.Val

open Cert.KernelCIdeal Cert.KernelCIdeal.Gen Idealize.ShloMosaic Idealize.ShloMosaic.TcCoe Idealize.SL.Sem
open Cert.Chol

/-! ## The result of the call that factors and inverts -/

theorem idx : ∀ t : Fin cfg0.N, win0_0.index t = ![0, 0] ∧ win0_1.index t = ![0, 0] :=
  (by decide +kernel : ∀ t : Fin grid0.N, _)

variable (m : (ℓ : Loc nD τ sig) → Buf (Elt Ideal) ℓ) (c : Dev nD)

theorem iblk0 (t : Fin cfg0.N) (a b : Fin 160) :
    (show Vec Ideal S160x160 .f32 from iblk m c 0 t) (ix2 a b) = m ((c : Thread nD τ).loc main_arg0) (ix2 a b) := by
  blk_point [iblk, V, idx t]
theorem iblk1 (t : Fin cfg0.N) (a b : Fin 160) :
    (show Vec Ideal S160x160 .f32 from iblk m c 1 t) (ix2 a b) = m ((c : Thread nD τ).loc main_arg1) (ix2 a b) := by
  blk_point [iblk, V, idx t]

/-- The array is the right half of the elimination. -/
theorem final2 {G : Matrix (Fin 160) (Fin 160) ℝ} (hp : Pivots G)
    (hG : ∀ i j : Fin 160, (show EReal from m ((c : Thread nD τ).loc main_arg0) (ix2 i j)) + (show EReal from m ((c : Thread nD τ).loc main_arg1) (ix2 i j))
      + (show EReal from m ((c : Thread nD τ).loc main_arg1) (ix2 j i)) = (G i j : EReal)) :
    (dats m 0 c).arrAt 2 (cfgs 0).N = fun i : S160x160.Idx => (rgt G 160 (i 0) (i 1) : EReal) := by
  refine (dats m 0 c).arrAt_eq_of_after_last 2 t0_0 (by decide +kernel) _ fun j => ?_
  blk_simp
  rw [after0_2]
  idx_vars j
  refine out_val hp (fun i j => ?_) _ _
  rw [← hG]
  exact congrArg₂ (· + ·) (congrArg₂ (· + ·) (iblk0 m c _ i j) (iblk1 m c _ i j)) (iblk1 m c _ j i)

end Cert.KernelCIdeal.Val
end
-- ==== Proof.CRef.lean ====
module

public import proofs.«01_k».proof.Proof.WBody
public import proofs.«01_k».proof.Proof.CWord
public import proofs.«01_k».proof.Proof.Gen.ReferenceCIdeal.Value

@[expose] public section

set_option maxRecDepth 16384

noncomputable section

namespace Cert.ReferenceCIdeal.Val

open Cert.ReferenceCIdeal Cert.ReferenceCIdeal.Gen Idealize.ShloMosaic Idealize.ShloMosaic.TcCoe Idealize.SL.Sem
open Cert.KernelIdeal.Val (ldR readAt_at pc canon_hit)
open Cert.Chol

/-! ## The reference of the call that factors and inverts -/

/-- A property kept by every step of a loop holds at its end. -/
theorem fold_inv {α : Type} : ∀ {n : ℕ} (g : Fin n → α → α) (a : α) (P : ℕ → α → Prop), P 0 a → (∀ (k : Fin n) s, P k s → P (k + 1) (g k s)) →
    P n ((List.finRange n).foldl (fun acc k => g k acc) a)
  | 0, _, _, _, h0, _ => h0
  | n + 1, g, a, P, h0, hs => by
    rw [List.finRange_succ_last, List.foldl_append, List.foldl_map]
    exact hs (Fin.last n) _ (fold_inv (fun k => g k.castSucc) a P h0 fun k s h => hs k.castSucc s h)

theorem trips1 : k0_t1_loop.trips = 160 := by decide +kernel
theorem trips2 : k0_t2_loop.trips = 160 := by decide +kernel

section steps
variable (k : Fin k0_t1_loop.trips) (K : Fin 160) (hK : K.val = k.val) (l s : Vec Ideal S160x160 .f32) (i j : Fin 160)
include hK

theorem pay3_at : (show EReal from k0_pay3 (F := Ideal) k s) = Ideal.sqrt (s (ix2 K K)) := by
  show (_ : EReal) = _
  pointwise [k0_pay3]
  rw [iv_eq, ← hK, sum_sel2 (by norm_num) K.val (by omega)]
  rfl

theorem pay4_at : (show EReal from k0_pay4 (F := Ideal) k s (ix2 i 0)) = if K ≤ i then Ideal.div (s (ix2 i K)) (Ideal.sqrt (s (ix2 K K))) else 0 := by
  rw [← pay3_at k K hK]
  show (_ : EReal) = _
  pointwise [k0_pay4]
  rw [iv_eq, ← hK, sum_sel (by norm_num) K.val (by omega), sel_ge (by omega) (by omega)]
  rfl

theorem pay5_at : (show EReal from k0_pay5 (F := Ideal) k l s (ix2 i j))
    = if j = K then (show EReal from k0_pay4 (F := Ideal) k s (ix2 i 0)) else (show EReal from l (ix2 i j)) := by
  show (_ : EReal) = _
  pointwise [k0_pay5]
  rw [iv_eq, ← hK, sel_eq (by omega) (by omega)]
  simp only [Fin.ext_iff]

theorem pay6_at : (show EReal from k0_pay6 (F := Ideal) k s (ix2 i j))
    = (show EReal from s (ix2 i j)) - (show EReal from k0_pay4 (F := Ideal) k s (ix2 i 0)) * Ideal.div (s (ix2 K j)) (Ideal.sqrt (s (ix2 K K))) := by
  rw [← pay3_at k K hK]
  show (_ : EReal) = _
  pointwise [k0_pay6]
  rw [iv_eq, ← hK, sum_sel (by norm_num) K.val (by omega)]

end steps

theorem pay8_at (k : Fin k0_t2_loop.trips) (K : Fin 160) (hK : K.val = k.val) (l q : Vec Ideal S160x160 .f32) (i j : Fin 160) :
    (show EReal from k0_pay8 (F := Ideal) l k q (ix2 i j)) = if j = K then
      Ideal.div (((if i = K then 1 else 0 : ℝ) : EReal) - ∑ x : Fin 160, (show EReal from q (ix2 i x)) * (show EReal from l (ix2 K x))) (l (ix2 K K))
      else (show EReal from q (ix2 i j)) := by
  show (_ : EReal) = _
  pointwise [k0_pay8]
  simp only [iv_eq, ← hK]
  rw [sel_eq (by omega) (by omega)]
  simp only [sum_sel (show 160 ≤ 512 by norm_num) K.val K.isLt, Fin.ext_iff]
  congr 3
  refine (eye_eq (by omega) (by omega)).trans ?_
  rfl

variable {G : Matrix (Fin 160) (Fin 160) ℝ} (hp : Pivots G)
include hp

/-- The first loop: the columns of the factor so far, and what is left of the matrix. -/
theorem fold1 (g : Vec Ideal S160x160 .f32) (hg : ∀ i j : Fin 160, (show EReal from g (ix2 i j)) = (G i j : EReal)) (i j : Fin 160) :
    (show EReal from (Scf.fold (fun (k : Fin k0_t1_loop.trips) (p : Vec Ideal S160x160 .f32 × Vec Ideal S160x160 .f32) =>
      (k0_pay5 (F := Ideal) k p.1 p.2, k0_pay6 (F := Ideal) k p.2)) (k0_pay2 (F := Ideal), g)).1 (ix2 i j)) = (chol G i j : EReal) := by
  rw [Scf.fold_eq]
  have h := fold_inv (fun (k : Fin k0_t1_loop.trips) (p : Vec Ideal S160x160 .f32 × Vec Ideal S160x160 .f32) =>
      (k0_pay5 (F := Ideal) k p.1 p.2, k0_pay6 (F := Ideal) k p.2)) (k0_pay2 (F := Ideal), g)
    (fun n p => n ≤ 160 → ∀ i j : Fin 160, (show EReal from p.1 (ix2 i j)) = ((if j.val < n then chol G i j else 0 : ℝ) : EReal)
      ∧ (show EReal from p.2 (ix2 i j)) = (elim G n i j : EReal)) ?_ ?_
  · have h2 := (h (le_of_eq trips1) i j).1
    rw [if_pos (by rw [trips1]; exact j.isLt)] at h2
    exact h2
  · intro _ i j
    refine ⟨?_, hg i j⟩
    rw [if_neg (Nat.not_lt_zero _), EReal.coe_zero]
    show (_ : EReal) = _
    pointwise [k0_pay2]
  · intro k p ih hk i j
    obtain ⟨K, hK⟩ : ∃ K : Fin 160, K.val = k.val := ⟨⟨k.val, by omega⟩, rfl⟩
    have ih : ∀ i j : Fin 160, (show EReal from p.1 (ix2 i j)) = ((if j < K then chol G i j else 0 : ℝ) : EReal)
        ∧ (show EReal from p.2 (ix2 i j)) = (elim G K i j : EReal) := by
      intro i j
      rw [hK]
      have := ih (by omega) i j
      rwa [← hK] at this ⊢
    have hc : ∀ i : Fin 160, (show EReal from k0_pay4 (F := Ideal) k p.2 (ix2 i 0)) = (chol G i K : EReal) := by
      intro i
      refine (pay4_at k K hK p.2 i).trans ?_
      unfold chol
      by_cases h : K ≤ i
      · rw [if_pos h, if_pos h]
        refine (congrArg₂ (fun x y => Ideal.div x (Ideal.sqrt y)) (ih i K).2 (ih K K).2).trans ?_
        rw [sqrt_coe (hp K), div_coe _ (Real.sqrt_pos.mpr (hp K)).ne']
      · rw [if_neg h, if_neg h, EReal.coe_zero]
    rw [← hK]
    refine ⟨?_, ?_⟩
    · refine (pay5_at k K hK p.1 p.2 i j).trans ?_
      by_cases h : j = K
      · subst h
        rw [if_pos rfl, hc, if_pos (Nat.lt_succ_self _)]
      · rw [if_neg h]
        refine (ih i j).1.trans ?_
        congr 1
        refine if_congr ?_ rfl rfl
        rw [Fin.lt_def]
        have : j.val ≠ K.val := fun e => h (Fin.ext e)
        omega
    · refine (pay6_at k K hK p.2 i j).trans ?_
      refine (congrArg₂ (· - ·) (ih i j).2 (congrArg₂ (· * ·) (hc i)
        (congrArg₂ (fun x y => Ideal.div x (Ideal.sqrt y)) (ih K j).2 (ih K K).2))).trans ?_
      rw [sqrt_coe (hp K), div_coe _ (Real.sqrt_pos.mpr (hp K)).ne', elim_step hp K i j]
      rw [← EReal.coe_mul, ← EReal.coe_sub, up, div_eq_mul_inv]

/-- The second loop: the unknowns found so far. -/
theorem fold2 (l : Vec Ideal S160x160 .f32) (hl : ∀ i j : Fin 160, (show EReal from l (ix2 i j)) = (chol G i j : EReal)) (i j : Fin 160) :
    (show EReal from (Scf.fold (fun (k : Fin k0_t2_loop.trips) (q : Vec Ideal S160x160 .f32) => k0_pay8 (F := Ideal) l k q)
      (k0_pay7 (F := Ideal))) (ix2 i j)) = (sub (chol G) 160 i j : EReal) := by
  rw [Scf.fold_eq]
  have h := fold_inv (fun (k : Fin k0_t2_loop.trips) (q : Vec Ideal S160x160 .f32) => k0_pay8 (F := Ideal) l k q) (k0_pay7 (F := Ideal))
    (fun n q => n ≤ 160 → ∀ i j : Fin 160, (show EReal from q (ix2 i j)) = (sub (chol G) n i j : EReal)) ?_ ?_
  · have h2 := h (le_of_eq trips2) i j
    rw [show sub (chol G) 160 = sub (chol G) k0_t2_loop.trips by rw [trips2]]
    exact h2
  · intro _ i j
    show (_ : EReal) = _
    pointwise [k0_pay7]
    simp [sub]
  · intro k q ih hk i j
    obtain ⟨K, hK⟩ : ∃ K : Fin 160, K.val = k.val := ⟨⟨k.val, by omega⟩, rfl⟩
    have ih := ih (by omega)
    rw [← hK] at ih ⊢
    refine (pay8_at k K hK l q i j).trans ?_
    rw [sub_succ]
    by_cases h : j = K
    · rw [if_pos h, if_pos h]
      have hs : ∑ x : Fin 160, (show EReal from q (ix2 i x)) * (show EReal from l (ix2 K x)) = ((∑ x, sub (chol G) K i x * chol G K x : ℝ) : EReal) := by
        rw [← sum_coe]
        exact Finset.sum_congr rfl fun x _ => (congrArg₂ (· * ·) (ih i x) (hl K x)).trans (EReal.coe_mul _ _).symm
      rw [hs]
      refine (congrArg (Ideal.div _) (hl K K)).trans ?_
      rw [← EReal.coe_sub, div_coe _ (chol_diag_pos hp K).ne', Matrix.one_apply]
    · rw [if_neg h, if_neg h]
      exact ih i j

variable (c : Dev nD) (a0 : Memref sig .tc .vmem S160x160 .f32) (h0 : a0.IsWhole) (a1 : Memref sig .tc .vmem S160x160 .f32) (h1 : a1.IsWhole)
  (a2 : Memref sig .tc .vmem S160x160 .f32) (h2 : a2.IsWhole)
  (x0 : Vec Ideal S160x160 .f32) (x1 : Vec Ideal S160x160 .f32)
  (hG : ∀ i j : Fin 160, (show EReal from x0 (ix2 i j)) + (show EReal from x1 (ix2 i j)) + (show EReal from x1 (ix2 j i)) = (G i j : EReal))
include hG

/-- What the body leaves in its result. -/
theorem out_val (i j : Fin 160) : (show EReal from out0_A_2 (F := Ideal) c a0 h0 a1 h1 a2 h2 x0 x1 (ix2 i j)) = (sub (chol G) 160 j i : EReal) := by
  show VO0_2.read (Elt Ideal) (VO0_2.writes (Elt Ideal) VO0_2.junk (kernelRun0_A (F := Ideal) c a0 h0 a1 h1 a2 h2 x0 x1).1) (ix2 i j) = _
  have e : (kernelRun0_A (F := Ideal) c a0 h0 a1 h1 a2 h2 x0 x1).1
    = [pc 0 0 160 160 inb_S160x160_S160x160_0_0 (k0_pay9 (F := Ideal) (Scf.fold (fun (k : Fin k0_t2_loop.trips) (q : Vec Ideal S160x160 .f32) =>
        k0_pay8 (F := Ideal) (Scf.fold (fun (k : Fin k0_t1_loop.trips) (p : Vec Ideal S160x160 .f32 × Vec Ideal S160x160 .f32) =>
          (k0_pay5 (F := Ideal) k p.1 p.2, k0_pay6 (F := Ideal) k p.2)) (k0_pay2 (F := Ideal), k0_pay1 (F := Ideal)
            (ldR a1 h1 x1 0 0 160 160 inb_S160x160_S160x160_0_0) (ldR a0 h0 x0 0 0 160 160 inb_S160x160_S160x160_0_0))).1 k q)
        (k0_pay7 (F := Ideal))))] := rfl
  have hg : ∀ i j : Fin 160, (show EReal from k0_pay1 (F := Ideal) (ldR a1 h1 x1 0 0 160 160 inb_S160x160_S160x160_0_0)
      (ldR a0 h0 x0 0 0 160 160 inb_S160x160_S160x160_0_0) (ix2 i j)) = (G i j : EReal) := fun i j => by
    refine Eq.trans ?_ (hG i j)
    show (_ : EReal) = _
    pointwise [k0_pay1]
    erw [readAt_at a0 h0 inb_S160x160_S160x160_0_0 x0 i j i j (by simp) (by simp), readAt_at a1 h1 inb_S160x160_S160x160_0_0 x1 i j i j (by simp) (by simp),
      readAt_at a1 h1 inb_S160x160_S160x160_0_0 x1 j i j i (by simp) (by simp)]
  generalize k0_pay1 (F := Ideal) (ldR a1 h1 x1 0 0 160 160 inb_S160x160_S160x160_0_0) (ldR a0 h0 x0 0 0 160 160 inb_S160x160_S160x160_0_0) = g at e hg
  have h := fold2 hp _ (fold1 hp g hg) j i
  rw [View.read_writes_junk_apply_eq_canon, e, canon_hit _ _ _ i j i j (by simp) (by simp)]
  refine Eq.trans ?_ h
  show (_ : EReal) = _
  pointwise [k0_pay9]

end Cert.ReferenceCIdeal.Val

namespace Cert.ReferenceCIdeal.Val

open Cert.ReferenceCIdeal Cert.ReferenceCIdeal.Gen Idealize.ShloMosaic Idealize.ShloMosaic.TcCoe Idealize.SL.Sem
open Cert.Chol

variable (m : (ℓ : Loc nD τ sig) → Buf (Elt Ideal) ℓ) (c : Dev nD)

theorem idx : ∀ t : Fin cfg0.N, win0_0.index t = ![0, 0] ∧ win0_1.index t = ![0, 0] :=
  (by decide +kernel : ∀ t : Fin grid0.N, _)

theorem iblk0 (t : Fin cfg0.N) (a b : Fin 160) :
    (show Vec Ideal S160x160 .f32 from iblk m c 0 t) (ix2 a b) = m ((c : Thread nD τ).loc main_arg0) (ix2 a b) := by
  blk_point [iblk, V, idx t]
theorem iblk1 (t : Fin cfg0.N) (a b : Fin 160) :
    (show Vec Ideal S160x160 .f32 from iblk m c 1 t) (ix2 a b) = m ((c : Thread nD τ).loc main_arg1) (ix2 a b) := by
  blk_point [iblk, V, idx t]

/-- The array is the solution of the triangular system. -/
theorem final2 {G : Matrix (Fin 160) (Fin 160) ℝ} (hp : Pivots G)
    (hG : ∀ i j : Fin 160, (show EReal from m ((c : Thread nD τ).loc main_arg0) (ix2 i j)) + (show EReal from m ((c : Thread nD τ).loc main_arg1) (ix2 i j))
      + (show EReal from m ((c : Thread nD τ).loc main_arg1) (ix2 j i)) = (G i j : EReal)) :
    (dats m 0 c).arrAt 2 (cfgs 0).N = fun i : S160x160.Idx => (sub (chol G) 160 (i 1) (i 0) : EReal) := by
  refine (dats m 0 c).arrAt_eq_of_after_last 2 t0_0 (by decide +kernel) _ fun j => ?_
  blk_simp
  rw [after0_2]
  idx_vars j
  refine out_val hp _ _ _ _ _ _ _ _ _ (fun i j => ?_) _ _
  rw [← hG]
  exact congrArg₂ (· + ·) (congrArg₂ (· + ·) (iblk0 m c _ i j) (iblk1 m c _ i j)) (iblk1 m c _ j i)

end Cert.ReferenceCIdeal.Val
end
-- ==== Proof.CPre.lean ====
module

public import proofs.«01_k».proof.Proof.YPre
public import proofs.«01_k».proof.Proof.CWord
public import proofs.«01_k».proof.Pre_pivots
public import proofs.«01_k».proof.Proof.Gen.Pre_pivots

@[expose] public section

set_option maxRecDepth 65536

noncomputable section

namespace Cert.Pre_pivots.Val

open Cert.Pre_pivots Idealize.ShloMosaic
open Cert.KernelYIdeal.Val (IsReal)
open Cert.Chol

variable [Facts]

/-- One step of the precondition: what is left of the matrix, and whether the pivot is positive. -/
def stp (k : ℕ) (s : FVec Ideal S160x160 .f32) : FVec Ideal S160x160 .f32 × IVec S_ 1 := fn_eliminate (F := Ideal) (constantI S_ 32 (BitVec.ofNat 32 k)) s

/-- The flag after `n` steps from step `k`. -/
def prun : ℕ → ℕ → FVec Ideal S160x160 .f32 → IVec S_ 1 → IVec S_ 1
  | 0, _, _, b => b
  | n + 1, k, s, b => prun n (k + 1) (stp k s).1 (andi b (stp k s).2)

section
attribute [local irreducible] fn_eliminate andi

/-- The matrix the call factors. -/
def gram (a0 a1 : FVec Ideal S160x160 .f32) : FVec Ideal S160x160 .f32 :=
  addf (addf a0 a1) (transpose S160x160 [1, 0] a1 Facts.transposes_S160x160_S160x160_1_0)

/-- Whether every entry is finite. -/
def fin' (a : FVec Ideal S160x160 .f32) : IVec S_ 1 :=
  Host.reduce IntOp.andi (cmpf .olt (Host.absf a) (broadcastInDim S160x160 ![] Facts.bcast_S_S160x160 (constant S_ .f32 0x7F800000#32)))
    (constantI S_ 1 1#1) Facts.reducesTo_S160x160_S_d0_1 Facts.h_S_

/-- The predicate is its 160 steps. -/
theorem fn_eq (a0 a1 : FVec Ideal S160x160 .f32) : fn (F := Ideal) a0 a1 = prun 160 0 (gram a0 a1) (andi (fin' a0) (fin' a1)) := by
  rfl

end

theorem zero_eq : (show EReal from id (constant (F := Ideal) S_ .f32 0#32) ix0) = 0 := by
  show Ideal.ofBits .f32 0#32 = 0
  simp [Ideal.ofBits, Ideal.ieee]

theorem st_at (k : ℕ) (K : Fin 160) (hK : K.val = k) (s : FVec Ideal S160x160 .f32) (i j : Fin 160) :
    (show EReal from (stp k s).1 (ix2 i j)) = (show EReal from s (ix2 i j))
      - Ideal.div ((show EReal from s (ix2 i K)) * (show EReal from s (ix2 K j))) (s (ix2 K K)) := by
  subst hK
  show (_ : EReal) = _
  pointwise [stp, fn_eliminate, fn_eliminate_part1, fn_where]
  have hz := zero_eq
  dsimp only at hz
  rw [hz]
  have hk : id (constantI S_ 32 (BitVec.ofNat 32 K)) ix0 = BitVec.ofNat 32 K := rfl
  rw [hk, sum_sel (by norm_num) K.val (by omega), sum_sel (by norm_num) K.val (by omega), sum_sel2 (by norm_num) K.val (by omega)]

theorem fl_at (k : ℕ) (K : Fin 160) (hK : K.val = k) (s : FVec Ideal S160x160 .f32) (h : (stp k s).2 ix0 = 1#1) :
    (0 : EReal) < s (ix2 K K) := by
  subst hK
  have e : (stp K s).2 ix0 = BitVec.ofBool (decide ((0 : EReal) < s (ix2 K K))) := by
    pointwise [stp, fn_eliminate, fn_eliminate_part1, fn_where]
    refine congrArg (fun z : EReal => BitVec.ofBool (decide (0 < z))) ?_
    have hz := zero_eq
    dsimp only at hz
    rw [hz]
    have hk : id (constantI S_ 32 (BitVec.ofNat 32 K)) ix0 = BitVec.ofNat 32 K := rfl
    rw [hk, sum_sel2 (by norm_num) K.val (by omega)]
  rw [e] at h
  by_contra hn
  rw [decide_eq_false hn] at h
  exact absurd h (by decide)

/-- The flag, once down, stays down. -/
theorem prun_one (n k : ℕ) (s : FVec Ideal S160x160 .f32) (b : IVec S_ 1) (h : prun n k s b ix0 = 1#1) : b ix0 = 1#1 := by
  induction n generalizing k s b with
  | zero => exact h
  | succ n ih => exact (IntOp.andi_eq_one.mp (ih _ _ _ h)).1

/-- If the flag is up after the steps from `k`, the pivots they meet are positive. -/
theorem prun_pivots (G : Matrix (Fin 160) (Fin 160) ℝ) (n k : ℕ) (hk : k + n ≤ 160) (s : FVec Ideal S160x160 .f32) (b : IVec S_ 1)
    (hs : ∀ i j : Fin 160, (show EReal from s (ix2 i j)) = (elim G k i j : EReal)) (h : prun n k s b ix0 = 1#1)
    (j : Fin 160) (h1 : k ≤ j) (h2 : j.val < k + n) : 0 < elim G j j j := by
  induction n generalizing k s b with
  | zero => omega
  | succ n ih =>
    obtain ⟨K, rfl⟩ : ∃ K : Fin 160, (K : ℕ) = k := ⟨⟨k, by omega⟩, rfl⟩
    have hp : 0 < elim G K K K := by
      have := fl_at K K rfl s (IntOp.andi_eq_one.mp (prun_one n (K + 1) (stp K s).1 (andi b (stp K s).2) h)).2
      have e := hs K K
      dsimp only at e
      rw [e] at this
      exact_mod_cast this
    rcases Nat.eq_or_lt_of_le h1 with e | h1
    · rwa [← Fin.ext e]
    · refine ih (K + 1) (by omega) _ _ (fun i j => ?_) h h1 (by omega)
      refine (st_at K K rfl s i j).trans ?_
      rw [hs i j, hs i K, hs K j]
      refine (congrArg (fun z => _ - Ideal.div _ z) (hs K K)).trans ?_
      rw [← EReal.coe_mul, div_coe _ hp.ne', ← EReal.coe_sub, elim_succ]

/-- What the predicate says of the two arrays. -/
theorem of_fn (a0 a1 : FVec Ideal S160x160 .f32) (h : fn (F := Ideal) a0 a1 = fun _ => 1#1) : ∃ G : Matrix (Fin 160) (Fin 160) ℝ, Pivots G
    ∧ ∀ i j : Fin 160, (show EReal from a0 (ix2 i j)) + (show EReal from a1 (ix2 i j)) + (show EReal from a1 (ix2 j i)) = (G i j : EReal) := by
  have h1 := congrFun h ix0
  rw [fn_eq] at h1
  have : Subsingleton S_.Idx := ⟨fun a b => funext fun i => i.elim0⟩
  obtain ⟨h2, h3⟩ : _ ∧ _ := IntOp.andi_eq_one.mp (prun_one _ _ _ _ h1)
  have r0 : ∀ i, IsReal (show EReal from a0 i) := fun i => IsReal.of_lt (Cert.Pre_finite.Val.lt_of_cmp _ (Host.reduce_andi_all _ _ _ _ _ h2 i))
  have r1 : ∀ i, IsReal (show EReal from a1 i) := fun i => IsReal.of_lt (Cert.Pre_finite.Val.lt_of_cmp _ (Host.reduce_andi_all _ _ _ _ _ h3 i))
  have hG : ∀ i j : Fin 160, ∃ g : ℝ, (show EReal from a0 (ix2 i j)) + (show EReal from a1 (ix2 i j)) + (show EReal from a1 (ix2 j i)) = (g : EReal) :=
    fun i j => ((r0 _).add (r1 _)).add (r1 _)
  choose G hG using hG
  refine ⟨G, fun j => prun_pivots G 160 0 le_rfl _ _ (fun i j => ?_) h1 j (Nat.zero_le _) (by omega), hG⟩
  refine Eq.trans ?_ (hG i j)
  show (_ : EReal) = _
  pointwise [gram]

end Cert.Pre_pivots.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.KernelYIdeal.Value
public import proofs.«01_k».proof.Proof.Gen.ReferenceYIdeal
public import proofs.«01_k».proof.Proof.Gen.ReferenceYIdeal.Skeleton
public import proofs.«01_k».proof.Proof.Gen.ReferenceYIdeal.Launch
public import proofs.«01_k».proof.Proof.Gen.ReferenceYIdeal.Points
public import proofs.«01_k».proof.Proof.Gen.ReferenceYIdeal.Frame
public import proofs.«01_k».proof.Proof.Gen.ReferenceYIdeal.Value
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.KernelFIdeal.Value
public import proofs.«01_k».proof.Proof.Gen.ReferenceFIdeal
public import proofs.«01_k».proof.Proof.Gen.ReferenceFIdeal.Skeleton
public import proofs.«01_k».proof.Proof.Gen.ReferenceFIdeal.Launch
public import proofs.«01_k».proof.Proof.Gen.ReferenceFIdeal.Points
public import proofs.«01_k».proof.Proof.Gen.ReferenceFIdeal.Frame
public import proofs.«01_k».proof.Proof.Gen.ReferenceFIdeal.Value
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Skeleton
public import proofs.«01_k».proof.Proof.Gen.ReferenceCIdeal.Launch
public import proofs.«01_k».proof.Proof.Gen.ReferenceCIdeal.Points
public import proofs.«01_k».proof.Proof.Gen.ReferenceCIdeal.Frame
public import proofs.«01_k».proof.Proof.Gen.ReferenceCIdeal.Value
public import proofs.«01_k».proof.Proof.Gen.Pre_finite_y
public import proofs.«01_k».proof.Proof.Gen.Pre_finite_first
public import proofs.«01_k».proof.Proof.Gen.Pre_pivots
public import proofs.«01_k».proof.Proof.RVal
public import proofs.«01_k».proof.Proof.PreVal
public import proofs.«01_k».proof.Proof.YFin
public import proofs.«01_k».proof.Proof.FFin
public import proofs.«01_k».proof.Proof.YRef
public import proofs.«01_k».proof.Proof.YPre
public import proofs.«01_k».proof.Proof.CFin
public import proofs.«01_k».proof.Proof.CRef
public import proofs.«01_k».proof.Proof.CPre
public import Idealize.ShloMosaic.Adequacy
public import Idealize.ShloMosaic.Init

@[expose] public section

noncomputable section

namespace Cert.Proof

open Idealize.ShloMosaic Idealize.SL.Sem Cert.Kernel

/-- Under the precondition the kernel's two results are the reference's. -/
theorem algebraic : @algebraic_KernelIdeal_ReferenceIdeal_pre_finite Cert.KernelIdeal.Gen.facts Cert.ReferenceIdeal.Gen.facts Cert.Pre_finite.Gen.facts := by
  intro m g m' g' hpre hargs
  have hfin : ∀ c, Cert.KernelIdeal.Val.Fin' m c := fun c => by
    have h := @Cert.Pre_finite.Val.of_fn Cert.Pre_finite.Gen.facts _ _ _ _ (hpre c)
    exact ⟨h.1, h.2⟩
  refine ⟨_, _, (θ_run Cert.KernelIdeal.defs _ _).mono (fun r h c => ⟨(h c).1.trans (Cert.KernelIdeal.Val.final4 (hfin c)),
      (h c).2.1.trans (Cert.KernelIdeal.Val.final5 (hfin c)), (h c).2.2⟩) (Cert.KernelIdeal.Value.run_blocks m g),
    (θ_run Cert.ReferenceIdeal.defs _ _).mono (fun r h c => ⟨?_, ?_, (h c).2.2⟩) (Cert.ReferenceIdeal.Value.run_blocks m' g')⟩
  · obtain ⟨h0, h1, h2, h3⟩ := hargs c
    rw [(h c).1, Cert.ReferenceIdeal.Value.final4, h0, h1, h2, h3]
    exact Cert.ReferenceIdeal.Val.ref4 _ _
  · obtain ⟨h0, h1, h2, h3⟩ := hargs c
    rw [(h c).2.1, Cert.ReferenceIdeal.Value.final5, h0, h1, h2, h3]
    exact Cert.ReferenceIdeal.Val.ref5 _ _ _ _

/-- The same of the pass that makes a sketch. -/
theorem algebraicY : @algebraic_KernelYIdeal_ReferenceYIdeal_pre_finite_y Cert.KernelYIdeal.Gen.facts Cert.ReferenceYIdeal.Gen.facts Cert.Pre_finite_y.Gen.facts := by
  intro m g m' g' hpre hargs
  have hfin : ∀ c r s, Cert.KernelYIdeal.Val.yv m c r s - Cert.KernelYIdeal.Val.yv m c r s = 0 := fun c r s => by
    have h := @Cert.Pre_finite_y.Val.of_fn Cert.Pre_finite_y.Gen.facts _ _ _ (hpre c)
    exact Cert.KernelYIdeal.Val.yb_sub_self _ _ _ h.2 h.1 r s
  refine ⟨_, _, _, (θ_run Cert.KernelYIdeal.defs _ _).mono (fun r h c => ⟨(h c).1.trans Cert.KernelYIdeal.Val.final3,
      (h c).2.1.trans (Cert.KernelYIdeal.Val.final4 (hfin c)), (h c).2.2.1.trans (Cert.KernelYIdeal.Val.final5 (hfin c)), (h c).2.2.2⟩)
      (Cert.KernelYIdeal.Value.run_blocks m g),
    (θ_run Cert.ReferenceYIdeal.defs _ _).mono (fun r h c => ⟨?_, ?_, ?_, (h c).2.2.2⟩) (Cert.ReferenceYIdeal.Value.run_blocks m' g')⟩
  · obtain ⟨h0, h1, h2⟩ := hargs c
    rw [(h c).1, Cert.ReferenceYIdeal.Value.final3, h0, h1, h2]
    exact Cert.ReferenceYIdeal.Val.ref3 _ _ _
  · obtain ⟨h0, h1, h2⟩ := hargs c
    rw [(h c).2.1, Cert.ReferenceYIdeal.Value.final4, h0, h1, h2]
    exact Cert.ReferenceYIdeal.Val.ref4 _ _ _
  · obtain ⟨h0, h1, h2⟩ := hargs c
    rw [(h c).2.2.1, Cert.ReferenceYIdeal.Value.final5, h0, h1, h2]
    exact Cert.ReferenceYIdeal.Val.ref5

/-- The same of the first pass, which also transposes the codes. -/
theorem algebraicF : @algebraic_KernelFIdeal_ReferenceFIdeal_pre_finite_first Cert.KernelFIdeal.Gen.facts Cert.ReferenceFIdeal.Gen.facts Cert.Pre_finite_first.Gen.facts := by
  intro m g m' g' hpre hargs
  have hfin : ∀ c r s, Cert.KernelFIdeal.Val.yv m c r s - Cert.KernelFIdeal.Val.yv m c r s = 0 := fun c r s => by
    have h := @Cert.Pre_finite_first.Val.of_fn Cert.Pre_finite_first.Gen.facts _ _ _ (hpre c)
    exact Cert.KernelYIdeal.Val.yb_sub_self _ _ _ h.2 h.1 r s
  refine ⟨_, _, _, _, (θ_run Cert.KernelFIdeal.defs _ _).mono (fun r h c => ⟨(h c).1.trans Cert.KernelFIdeal.Val.final3,
      (h c).2.1.trans Cert.KernelFIdeal.Val.final4, (h c).2.2.1.trans (Cert.KernelFIdeal.Val.final5 (hfin c)),
      (h c).2.2.2.1.trans (Cert.KernelFIdeal.Val.final6 (hfin c)), (h c).2.2.2.2⟩)
      (Cert.KernelFIdeal.Value.run_blocks m g),
    (θ_run Cert.ReferenceFIdeal.defs _ _).mono (fun r h c => ⟨?_, ?_, ?_, ?_, (h c).2.2.2.2⟩) (Cert.ReferenceFIdeal.Value.run_blocks m' g')⟩
  · obtain ⟨h0, h1, h2⟩ := hargs c
    rw [(h c).1, Cert.ReferenceFIdeal.Value.final3, h0, h1, h2]
    exact Cert.ReferenceFIdeal.Val.ref3 _
  · obtain ⟨h0, h1, h2⟩ := hargs c
    rw [(h c).2.1, Cert.ReferenceFIdeal.Value.final4, h0, h1, h2]
    exact Cert.ReferenceFIdeal.Val.ref4 _ _ _
  · obtain ⟨h0, h1, h2⟩ := hargs c
    rw [(h c).2.2.1, Cert.ReferenceFIdeal.Value.final5, h0, h1, h2]
    exact Cert.ReferenceFIdeal.Val.ref5 _ _ _
  · obtain ⟨h0, h1, h2⟩ := hargs c
    rw [(h c).2.2.2.1, Cert.ReferenceFIdeal.Value.final6, h0, h1, h2]
    exact Cert.ReferenceFIdeal.Val.ref6

/-- The same of the call that factors the Gram matrix and inverts the factor. -/
theorem algebraicC : @algebraic_KernelCIdeal_ReferenceCIdeal_pre_pivots Cert.KernelCIdeal.Gen.facts Cert.ReferenceCIdeal.Gen.facts Cert.Pre_pivots.Gen.facts := by
  intro m g m' g' hpre hargs
  have hpiv := fun c => @Cert.Pre_pivots.Val.of_fn Cert.Pre_pivots.Gen.facts _ _ (hpre c)
  choose G hp hG using hpiv
  refine ⟨_, (θ_run Cert.KernelCIdeal.defs _ _).mono (fun r h c => ⟨(h c).1.trans (Cert.KernelCIdeal.Val.final2 m c (hp c) (hG c)), (h c).2⟩)
      (Cert.KernelCIdeal.Value.run_blocks m g),
    (θ_run Cert.ReferenceCIdeal.defs _ _).mono (fun r h c => ⟨(h c).1.trans ?_, (h c).2⟩) (Cert.ReferenceCIdeal.Value.run_blocks m' g')⟩
  obtain ⟨h0, h1⟩ := hargs c
  refine (Cert.ReferenceCIdeal.Val.final2 m' c (hp c) fun i j => ?_).trans ?_
  · rw [h0, h1]
    exact hG c i j
  · funext i
    exact congrArg (fun x : ℝ => (x : EReal)) (Cert.Chol.rgt_eq (hp c) (i 0) (i 1)).symm

theorem claim : Cert.Claim := ⟨Cert.Kernel.Gen.facts, Cert.KernelIdeal.Gen.facts, Cert.ReferenceIdeal.Gen.facts,
  Cert.KernelY.Gen.facts, Cert.KernelYIdeal.Gen.facts, Cert.ReferenceYIdeal.Gen.facts,
  Cert.KernelF.Gen.facts, Cert.KernelFIdeal.Gen.facts, Cert.ReferenceFIdeal.Gen.facts,
  Cert.KernelC.Gen.facts, Cert.KernelCIdeal.Gen.facts, Cert.ReferenceCIdeal.Gen.facts,
  Cert.Pre_finite.Gen.facts, Cert.Pre_finite_y.Gen.facts, Cert.Pre_finite_first.Gen.facts, Cert.Pre_pivots.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.KernelY.Gen.frame m ρ, fun m ρ _ => Cert.KernelYIdeal.Gen.frame m ρ, fun m ρ _ => Cert.KernelYIdeal.Gen.frame m ρ,
  fun m ρ _ => Cert.ReferenceYIdeal.Gen.frame m ρ, fun m ρ _ => Cert.ReferenceYIdeal.Gen.frame m ρ,
  fun m ρ _ => Cert.KernelF.Gen.frame m ρ, fun m ρ _ => Cert.KernelFIdeal.Gen.frame m ρ, fun m ρ _ => Cert.KernelFIdeal.Gen.frame m ρ,
  fun m ρ _ => Cert.ReferenceFIdeal.Gen.frame m ρ, fun m ρ _ => Cert.ReferenceFIdeal.Gen.frame m ρ,
  fun m ρ _ => Cert.KernelC.Gen.frame m ρ, fun m ρ _ => Cert.KernelCIdeal.Gen.frame m ρ, fun m ρ _ => Cert.KernelCIdeal.Gen.frame m ρ,
  fun m ρ _ => Cert.ReferenceCIdeal.Gen.frame m ρ, fun m ρ _ => Cert.ReferenceCIdeal.Gen.frame m ρ,
  trivial, algebraic, trivial, algebraicY, trivial, algebraicF, trivial, algebraicC⟩

end Cert.Proof

end
